-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v2) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x1024 : Shape := ⟨3, ![6, 3072, 1024]⟩
abbrev S2432x1024 : Shape := ⟨2, ![2432, 1024]⟩
abbrev S18432x1024 : Shape := ⟨2, ![18432, 1024]⟩
abbrev S3 : Shape := ⟨1, ![3]⟩
abbrev S2048x1024 : Shape := ⟨2, ![2048, 1024]⟩
abbrev S16x1024 : Shape := ⟨2, ![16, 1024]⟩
abbrev S128x16x1024 : Shape := ⟨3, ![128, 16, 1024]⟩
abbrev S1x2432x1024 : Shape := ⟨3, ![1, 2432, 1024]⟩
abbrev S1 : Shape := ⟨1, ![1]⟩
abbrev S1x1x1 : Shape := ⟨3, ![1, 1, 1]⟩
abbrev S8x128 : Shape := ⟨2, ![8, 128]⟩
abbrev S1x1 : Shape := ⟨2, ![1, 1]⟩
abbrev S1x16x1024 : Shape := ⟨3, ![1, 16, 1024]⟩
abbrev S6x384x8x2432 : Shape := ⟨4, ![6, 384, 8, 2432]⟩
abbrev S1x512x1024 : Shape := ⟨3, ![1, 512, 1024]⟩
abbrev S1x64x8x2432 : Shape := ⟨4, ![1, 64, 8, 2432]⟩
abbrev S512x1024 : Shape := ⟨2, ![512, 1024]⟩
abbrev S512x2432 : Shape := ⟨2, ![512, 2432]⟩
abbrev S64x8x2432 : Shape := ⟨3, ![64, 8, 2432]⟩
abbrev S6x3072x2432 : Shape := ⟨3, ![6, 3072, 2432]⟩
abbrev S_ : Shape := ⟨0, ![]⟩

abbrev nBuf : Space → Nat
  | .hbm => 12
  | .vmem => 12
  | .smem => 2
  | _ => 0

abbrev bufTy : (tb : Table) → Fin (tcTables nBuf tb) → BufTy
  | .hbm, ⟨0, _⟩ => ⟨S6x3072x1024, .bf16⟩
  | .hbm, ⟨1, _⟩ => ⟨S2432x1024, .f32⟩
  | .hbm, ⟨2, _⟩ => ⟨S18432x1024, .bf16⟩
  | .hbm, ⟨3, _⟩ => ⟨S2432x1024, .fp8e4m3⟩
  | .hbm, ⟨4, _⟩ => ⟨S3, .f32⟩
  | .hbm, ⟨5, _⟩ => ⟨S6x384x8x2432, .bf16⟩
  | .hbm, ⟨6, _⟩ => ⟨S6x3072x1024, .fp8e5m2⟩
  | .hbm, ⟨7, _⟩ => ⟨S6x3072x2432, .bf16⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S2432x1024, .f32⟩
  | .local _ .vmem, ⟨3, _⟩ => ⟨S2432x1024, .fp8e4m3⟩
  | .local _ .vmem, ⟨4, _⟩ => ⟨S16x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S2432x1024, .fp8e4m3⟩
  | .local _ .vmem, ⟨8, _⟩ => ⟨S1x64x8x2432, .bf16⟩
  | .local _ .vmem, ⟨9, _⟩ => ⟨S1x64x8x2432, .bf16⟩
  | .local _ .vmem, ⟨10, _⟩ => ⟨S1x512x1024, .fp8e5m2⟩
  | .local _ .vmem, ⟨11, _⟩ => ⟨S1x512x1024, .fp8e5m2⟩
  | .local _ .smem, ⟨0, _⟩ => ⟨S3, .f32⟩
  | .local _ .smem, ⟨1, _⟩ => ⟨S3, .f32⟩
  | _, _ => ⟨S6x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_stg3_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_cond3 (i : grid0.Coords) : BitVec 1 :=
  let arg0 : BitVec 32 := BitVec.ofNat 32 (i 0).val
  let c8_i32 : BitVec 32 := 8#32
  let v12 : BitVec 1 := Scalar.cmpi .eq arg0 c8_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2432x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2432x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![6, 6], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2432x1024 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x8x2432 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S6x3072x1024 : Shape := ⟨3, ![6, 3072, 1024]⟩
abbrev S2432x1024 : Shape := ⟨2, ![2432, 1024]⟩
abbrev S6x3072x2432 : Shape := ⟨3, ![6, 3072, 2432]⟩
abbrev S1x1 : Shape := ⟨2, ![1, 1]⟩
abbrev S18432x1024 : Shape := ⟨2, ![18432, 1024]⟩
abbrev S1x18432x1024 : Shape := ⟨3, ![1, 18432, 1024]⟩
abbrev S1 : Shape := ⟨1, ![1]⟩
abbrev S1x1x1 : Shape := ⟨3, ![1, 1, 1]⟩
abbrev S1x2432x1024 : Shape := ⟨3, ![1, 2432, 1024]⟩
abbrev S18432x2432 : Shape := ⟨2, ![18432, 2432]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S6x3072x1024, .bf16⟩
  | .hbm, ⟨1, _⟩ => ⟨S2432x1024, .f32⟩
  | .hbm, ⟨2, _⟩ => ⟨S6x3072x2432, .bf16⟩
  | .hbm, ⟨3, _⟩ => ⟨S6x3072x1024, .fp8e5m2⟩
  | .hbm, ⟨4, _⟩ => ⟨S1x1, .f32⟩
  | .hbm, ⟨5, _⟩ => ⟨S2432x1024, .fp8e4m3⟩
  | .hbm, ⟨6, _⟩ => ⟨S1x1, .f32⟩
  | .hbm, ⟨7, _⟩ => ⟨S_, .f32⟩
  | .hbm, ⟨8, _⟩ => ⟨S_, .f32⟩
  | .local _ .vmem, ⟨0, _⟩ => ⟨S6x3072x1024, .bf16⟩
  | .local _ .vmem, ⟨1, _⟩ => ⟨S2432x1024, .f32⟩
  | .local _ .vmem, ⟨2, _⟩ => ⟨S6x3072x2432, .bf16⟩
  | .local _ .vmem, ⟨3, _⟩ => ⟨S6x3072x1024, .fp8e5m2⟩
  | .local _ .vmem, ⟨4, _⟩ => ⟨S1x1, .f32⟩
  | .local _ .vmem, ⟨5, _⟩ => ⟨S2432x1024, .fp8e4m3⟩
  | .local _ .vmem, ⟨6, _⟩ => ⟨S1x1, .f32⟩
  | _, _ => ⟨S6x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x3072x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2432x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x3072x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x3072x1024 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2432x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.ScalesRun.lean ====
/-
  The first call (`cc0_scales`) run on any staging buffers, one theorem for each of its three cases: the first
  block, a block in the middle, the last block. Each says what the body leaves in every buffer.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Pointwise.Index
public import Idealize.ShloMosaic.Lib.Writes
public import Idealize.ShloMosaic.Lib.VecWindow
public import Idealize.ShloMosaic.Lib.CellWrites
public import Idealize.ShloMosaic.Lib.Ring
public import Idealize.ShloMosaic.Lib.Tactic
public import Idealize.ShloMosaic.Lib.WordCmp

@[expose] public section

set_option maxRecDepth 16384

noncomputable section

namespace Cert.Kernel.Scales

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running maximum after the first block. -/
def start (x : Vec F S2048x1024 .bf16) : Vec F S16x1024 .f32 := k0_pay7 (k0_pay1 x)
/-- The running maximum after a later block. -/
def next (x : Vec F S2048x1024 .bf16) (a : Vec F S16x1024 .f32) : Vec F S16x1024 .f32 := k0_pay4 x a
/-- The exponent of the weight's scale, at every lane. -/
def wExp (w : Vec F S2432x1024 .f32) : IVec S8x128 32 := k0_pay12 (k0_pay8 w) (k0_pay9 w) (k0_pay10 w) (k0_pay11 w)
/-- The weight's codes. -/
def wCodes (w : Vec F S2432x1024 .f32) : Vec F S2432x1024 .fp8e4m3 := k0_pay2 w (wExp w) 0#32
/-- The weight's scale. -/
def wScale (w : Vec F S2432x1024 .f32) : F .f32 := k0_pay3 (k0_pay13 (k0_pay8 w) (k0_pay9 w) (k0_pay10 w) (k0_pay11 w))
/-- The gradient's scale, from the running maximum after all blocks. -/
def dScale (a : Vec F S16x1024 .f32) : F .f32 := k0_pay5 (k0_pay18 (k0_pay14 a) (k0_pay15 a) (k0_pay16 a) 4#32)
/-- The reciprocal of the gradient's scale. -/
def dInv (a : Vec F S16x1024 .f32) : F .f32 := k0_pay6 (k0_pay19 (k0_pay14 a) (k0_pay15 a) (k0_pay16 a) 4#32) k0_pay20

/-- Whether the body is past the first block, as the body computes it. -/
def later (i : grid0.Coords) : BitVec 1 := Scalar.cmpi .ne (Scalar.extui (Scalar.cmpi .sgt (BitVec.ofNat 32 (i 0).val) 0#32) : BitVec 32) 0#32

variable (c : Dev nD) (i : grid0.Coords) (arg1 : Memref sig .tc .vmem S2048x1024 .bf16) (harg1 : arg1.IsWhole)
  (arg2 : Memref sig .tc .vmem S2432x1024 .f32) (harg2 : arg2.IsWhole) (arg3 : Memref sig .tc .vmem S2432x1024 .fp8e4m3) (harg3 : arg3.IsWhole)
  (arg4 : Memref sig .tc .smem S3 .f32) (harg4 : arg4.IsWhole) (arg5 : Memref sig .tc .vmem S16x1024 .f32) (harg5 : arg5.IsWhole)

/-- The one index of a one-word rectangle. -/
abbrev word (k : Fin 3) : S3.Idx := ix1 k

/-- A load of a whole block reads the block. -/
theorem load_x (x : Vec F S2048x1024 .bf16) : View.readAt (Elt F) arg1.view
    (Rect.unit (s := S2048x1024) ![0, 0] S2048x1024.size inb_S2048x1024_S2048x1024_0_0).toLoadRect (harg1.unread x) = x :=
  (View.readAt_full _ _ _).trans (harg1.read_unread _)
theorem load_w (x : Vec F S2432x1024 .f32) : View.readAt (Elt F) arg2.view
    (Rect.unit (s := S2432x1024) ![0, 0] S2432x1024.size inb_S2432x1024_S2432x1024_0_0).toLoadRect (harg2.unread x) = x :=
  (View.readAt_full _ _ _).trans (harg2.read_unread _)
theorem load_a (x : Vec F S16x1024 .f32) : View.readAt (Elt F) arg5.view
    (Rect.unit (s := S16x1024) ![0, 0] S16x1024.size inb_S16x1024_S16x1024_0_0).toLoadRect (harg5.unread x) = x :=
  (View.readAt_full _ _ _).trans (harg5.read_unread _)

set_option maxHeartbeats 1000000 in
/-- The first block: the running maximum starts, the weight's codes and scale are written. -/
theorem first (h1 : k0_cond1 i = 1#1) (h2 : ¬ later i = 1#1) (h3 : ¬ k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare (wCodes x1)
            ∗ (∃ X, ⌜X (word 2) = wScale x1⌝ ∗ owns (c : Thread nD τ) arg4 fullShare X) ∗ owns (c : Thread nD τ) arg5 fullShare (start x0)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [k0_part1_eq_skeleton, k0_part2_eq_skeleton]; unfold k0_part1_skel k0_part2_skel
  simp only [dif_pos h1, dif_neg h2, dif_neg h3]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ inb_S2432x1024_S2432x1024_0_0 _ _).trans ?_
    dsimp only
    rw [load_w]; rfl
  isplitl [H3]
  · iexists _; isplitr; swap
    · iexists _; isplitr; swap; · iexact H3
      ipureintro; rfl
    ipureintro
    refine (View.read_writes_cons_cell _ _ inb_S3_S1_2 _ _ _).trans ((if_pos rfl).trans ?_)
    rw [load_w]; rfl
  iexists _; isplitr; swap; · iexact H4
  ipureintro
  refine (View.read_writes_full _ _ inb_S16x1024_S16x1024_0_0 _ _).trans ?_
  rw [load_x]; rfl

set_option maxHeartbeats 1000000 in
/-- A block in the middle: the running maximum goes on, nothing else changes. -/
theorem middle (h1 : ¬ k0_cond1 i = 1#1) (h2 : later i = 1#1) (h3 : ¬ k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (next x0 x4)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [dif_neg h1, dif_pos h2, dif_neg h3]
  unfold owns
  iintro ⟨⟨%f0, %hf0, H0⟩, H1, H2, H3, ⟨%f4, %hf4, H4⟩, Hk⟩
  obtain rfl := harg1.eq_unread hf0; obtain rfl := harg5.eq_unread hf4
  sl_exec
  sl_step
  iapply Hk
  isplitl [H0]
  · iexists _; isplitr; · ipureintro; exact harg1.read_unread _
    iexact H0
  isplitl [H1]; · iexact H1
  isplitl [H2]; · iexact H2
  isplitl [H3]; · iexact H3
  iexists _; isplitr; swap; · iexact H4
  ipureintro
  refine (View.read_writes_full _ _ inb_S16x1024_S16x1024_0_0 _ _).trans ?_
  rw [load_x, load_a]; rfl

set_option maxHeartbeats 1000000 in
/-- The last block: the running maximum ends and the gradient's scale and its reciprocal are written. -/
theorem last (h1 : ¬ k0_cond1 i = 1#1) (h2 : later i = 1#1) (h3 : k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2
            ∗ (∃ X, ⌜X (word 0) = dScale (next x0 x4) ∧ X (word 1) = dInv (next x0 x4) ∧ X (word 2) = x3 (word 2)⌝
                ∗ owns (c : Thread nD τ) arg4 fullShare X) ∗ owns (c : Thread nD τ) arg5 fullShare (next x0 x4)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [k0_part3_eq_skeleton, k0_part4_eq_skeleton]; unfold k0_part3_skel k0_part4_skel
  simp only [dif_neg h1, dif_pos h2, dif_pos h3]
  unfold owns
  iintro ⟨⟨%f0, %hf0, H0⟩, H1, H2, ⟨%f3, %hf3, H3⟩, ⟨%f4, %hf4, H4⟩, Hk⟩
  obtain rfl := harg1.eq_unread hf0; obtain rfl := harg5.eq_unread hf4
  sl_exec
  sl_step
  iapply Hk
  isplitl [H0]
  · iexists _; isplitr; · ipureintro; exact harg1.read_unread _
    iexact H0
  isplitl [H1]; · iexact H1
  isplitl [H2]; · iexact H2
  isplitl [H3]
  · iexists _; isplitr; swap
    · iexists _; isplitr; swap; · iexact H3
      ipureintro; rfl
    ipureintro
    refine ⟨?_, ?_, ?_⟩
    · refine (View.read_writes_cons_cell _ _ inb_S3_S1_1 _ _ _).trans ((if_neg (by decide)).trans ?_)
      refine (View.read_writes_cons_cell _ _ inb_S3_S1_0 _ _ _).trans ((if_pos rfl).trans ?_)
      sl_unfold_words
      rw [View.readCov_full _ inb_S16x1024_S16x1024_0_0 inb_S16x1024_S16x1024_0_0, load_x, load_a]; rfl
    · refine (View.read_writes_cons_cell _ _ inb_S3_S1_1 _ _ _).trans ((if_pos rfl).trans ?_)
      sl_unfold_words
      rw [View.readCov_full _ inb_S16x1024_S16x1024_0_0 inb_S16x1024_S16x1024_0_0, load_x, load_a]; rfl
    · refine (View.read_writes_cons_cell _ _ inb_S3_S1_1 _ _ _).trans ((if_neg (by decide)).trans ?_)
      refine (View.read_writes_cons_cell _ _ inb_S3_S1_0 _ _ _).trans ((if_neg (by decide)).trans ?_)
      exact congrFun hf3 _
  iexists _; isplitr; swap; · iexact H4
  ipureintro
  refine (View.read_writes_full _ _ inb_S16x1024_S16x1024_0_0 _ _).trans ?_
  rw [load_x, load_a]; rfl

end Cert.Kernel.Scales

end
-- ==== Proof.Kernel.ScalesData.lean ====
/-
  The first call over its grid: what every buffer holds between its points, and that the body keeps it so.
  The two outputs are written at the first point and (the scales) at the last one only, so between points they are
  held to a predicate: the weight's codes and scale from the first point on, all three words after the last one.
-/
module

public import proofs.«01_k».proof.Proof.Kernel.ScalesRun
public import Idealize.ShloMosaic.Lib.Pipeline.DatRel

@[expose] public section

set_option maxRecDepth 16384

noncomputable section

namespace Cert.Kernel.Scales

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gradient's block at point `t`. -/
abbrev dBlk (c : Dev nD) (t : Fin cfg0.N) : Vec F S2048x1024 .bf16 := iblk V c 0 t
/-- The weight. -/
abbrev wBlk (c : Dev nD) : Vec F S2432x1024 .f32 := iblk V c 1 t0_0

/-- The running maximum after point `n`. -/
def acc (c : Dev nD) : (n : ℕ) → n < cfg0.N → Vec F S16x1024 .f32
  | 0, h => start (dBlk V c ⟨0, h⟩)
  | n + 1, h => next (dBlk V c ⟨n + 1, h⟩) (acc c n (Nat.lt_of_succ_lt h))

/-- The running maximum after the last point. -/
def total (c : Dev nD) : Vec F S16x1024 .f32 := acc V c 8 (by decide)

/-- The buffers of the other call, held at anything. -/
def others (c : Dev nD) : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg0_0), ((c : Thread nD τ).loc cc1_stg0_0) ↦{fullShare} f))

/-- The scratch that holds the running maximum. -/
abbrev scratch : Memref sig .tc .vmem S16x1024 .f32 := Memref.whole cc0_scratch0

/-- The buffers the pipeline does not stage: the scratch and the other call's. -/
theorem rest_eq (c : Dev nD) : (Pipeline.scopedRest (Ix := Unit) (Name := ℕ) (U := UR sig nD τ) (Lvl := ℕ) (Val := Elt F) spec0 c : sProp 𝕄)
    = iprop((∃ X, owns (c : Thread nD τ) scratch fullShare X) ∗ others c) := by
  rw [scopedRest0_eq]
  simp only [scratch, owns_whole]
  rfl

/-- What holds between points beside the windows: the scratch at the running maximum. -/
def inv (c : Dev nD) : (t : ℕ) → t < cfg0.N + 1 → sProp 𝕄
  | 0, _ => iprop((∃ X, owns (c : Thread nD τ) scratch fullShare X) ∗ others c)
  | n + 1, h => iprop(owns (c : Thread nD τ) scratch fullShare (acc V c n (Nat.lt_of_succ_lt_succ h)) ∗ others c)

/-- The exact part of the proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => fun _ => Classical.arbitrary _
    | ⟨3, _⟩ => fun _ => Classical.arbitrary _
  Φ t := inv V c t.val t.isLt
  q _ := fullShare
  owed _ := 0

/-- The outputs are the windows held to a predicate. -/
def fgt : Fin cfg0.W → Bool
  | ⟨0, _⟩ => false
  | ⟨1, _⟩ => false
  | ⟨2, _⟩ => true
  | ⟨3, _⟩ => true

/-- The three words of the scales after point `t`. -/
def Words (c : Dev nD) (t : Fin cfg0.N) (X : Vec F S3 .f32) : Prop :=
  X (word 2) = wScale (wBlk V c) ∧ (t.val = 8 → X (word 0) = dScale (total V c) ∧ X (word 1) = dInv (total V c))

/-- What each output's staging buffer holds after point `t`. -/
def Rl (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ X => X = wCodes (wBlk V c)
  | ⟨3, _⟩ => fun t X => Words V c t X

theorem before_0 (c : Dev nD) (t : Fin cfg0.N) (d) : (dat V c).before 0 t d = iblk V c 0 t :=
  ((dat V c).before_in_eq_fetched 0 rfl (fun _ => rfl) (fun _ _ _ => rfl) (fun t => by rfl) t d).trans
    (by unfold Dat.fetched Dat.blockOf iblk; rfl)
theorem before_1 (c : Dev nD) (t : Fin cfg0.N) (d) : (dat V c).before 1 t d = iblk V c 1 t :=
  ((dat V c).before_in_eq_fetched 1 rfl (fun _ => rfl) (fun _ _ _ => rfl) (fun t => by rfl) t d).trans
    (by unfold Dat.fetched Dat.blockOf iblk; rfl)

/-- Each window's staging memref at point `t`. -/
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2432x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2432x1024 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .smem S3 .f32 := win0_3.stage (cfg0.slots t 3)
abbrev hs_3 (t : Fin cfg0.N) : (ms_3 t).IsWhole := hstage0_3 ((cfg0.slots t 3).cast nbuf0_3)

/-- The conditions of the three cases over the points. -/
theorem cond1_iff : ∀ t : Fin cfg0.N, k0_cond1 (grid0.coords t) = 1#1 ↔ t.val = 0 := by decide +kernel
theorem later_iff : ∀ t : Fin cfg0.N, later (grid0.coords t) = 1#1 ↔ t.val ≠ 0 := by decide +kernel
theorem cond3_iff : ∀ t : Fin cfg0.N, k0_cond3 (grid0.coords t) = 1#1 ↔ t.val = 8 := by decide +kernel

/-- What an output's buffer holds when a later point's body runs is what the point before left there. -/
theorem finds (c : Dev nD) (w : Fin cfg0.W) (hw : fgt w = true) (hout : (cfg0.win w).isOut = true)
    (hflush : ∀ t : Fin cfg0.N, (cfg0.win w).flush t = true ↔ t.val % 9 = 8) (t : Fin cfg0.N) (ht : t.val ≠ 0) (Y)
    (h : ((dat V c).toRRel fgt (Rl V c)).Finds w t Y) : Rl V c w ⟨t.val - 1, Nat.lt_of_le_of_lt (Nat.sub_le _ _) t.isLt⟩ Y := by
  have hN : t.val < 9 := t.isLt
  have hf : (cfg0.win w).fetch t = false := by unfold Window.fetch; rw [hout]; rfl
  rcases (RDat.finds_of_pos _ hf ht Y).mp h with h | h
  · rw [hflush] at h; simp only at h; omega
  · exact Dat.toRRel_leaves _ hw h

abbrev 𝒱₀ : Variants := Variants.none

/-- What the body is handed at point `t`, and what it hands back. -/
def bodyPre (c : Dev nD) (t : Fin cfg0.N) : sProp 𝕄 :=
  iprop(inv V c t.castSucc.val t.castSucc.isLt ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ Y, ⌜((dat V c).toRRel fgt (Rl V c)).Finds 2 t Y⌝ ∗ owns (c : Thread nD τ) (ms_2 t) fullShare Y)
    ∗ (∃ Y, ⌜((dat V c).toRRel fgt (Rl V c)).Finds 3 t Y⌝ ∗ owns (c : Thread nD τ) (ms_3 t) fullShare Y))
def bodyPost (c : Dev nD) (t : Fin cfg0.N) : sProp 𝕄 :=
  iprop(inv V c t.succ.val t.succ.isLt ∗ (dat V c).owesAt () t.succ
    ∗ owns (c : Thread nD τ) (ms_0 t) fullShare (iblk V c 0 t)
    ∗ owns (c : Thread nD τ) (ms_1 t) fullShare (iblk V c 1 t)
    ∗ (∃ X, ⌜Rl V c 2 t X⌝ ∗ owns (c : Thread nD τ) (ms_2 t) fullShare X)
    ∗ (∃ X, ⌜Rl V c 3 t X⌝ ∗ owns (c : Thread nD τ) (ms_3 t) fullShare X))

set_option maxHeartbeats 1000000 in
theorem sound_body (c : Dev nD) (t : Fin cfg0.N) :
    bodyPre V c t ⊢ wp frame (wpE (defs₀ (F := F)) 𝒱₀ c none) Set.univ (bodyAt0 t) fun _ => bodyPost V c t := by
  unfold bodyPre bodyPost
  simp only [before_0, before_1]
  rw [show (dat V c).owesAt () t.succ = (dat V c).owesAt () t.castSucc from rfl]
  obtain ⟨n, hn⟩ := t
  have hN : n < 9 := hn
  by_cases h0 : n = 0
  · subst h0
    rw [show inv V c (Fin.castSucc (⟨0, hn⟩ : Fin cfg0.N)).val (Fin.castSucc (⟨0, hn⟩ : Fin cfg0.N)).isLt
        = iprop((∃ X, owns (c : Thread nD τ) scratch fullShare X) ∗ others c) from rfl,
      show inv V c (Fin.succ (⟨0, hn⟩ : Fin cfg0.N)).val (Fin.succ (⟨0, hn⟩ : Fin cfg0.N)).isLt
        = iprop(owns (c : Thread nD τ) scratch fullShare (acc V c 0 hn) ∗ others c) from rfl]
    iintro ⟨⟨⟨%a, Ha⟩, Hr⟩, HO, ⟨%d0, H0⟩, ⟨%d1, H1⟩, ⟨%Y2, -, H2⟩, ⟨%Y3, -, H3⟩⟩
    iapply (first c _ _ (hs_0 ⟨0, hn⟩) _ (hs_1 ⟨0, hn⟩) _ (hs_2 ⟨0, hn⟩) _ (hs_3 ⟨0, hn⟩) scratch (Memref.isWhole_whole _)
      ((cond1_iff ⟨0, hn⟩).mpr rfl) (by rw [later_iff]; simp) (by rw [cond3_iff]; simp) (iblk V c 0 ⟨0, hn⟩) (iblk V c 1 ⟨0, hn⟩) Y2 Y3 a Set.univ _)
    isplitl [H0]; · iexact H0
    isplitl [H1]; · iexact H1
    isplitl [H2]; · iexact H2
    isplitl [H3]; · iexact H3
    isplitl [Ha]; · iexact Ha
    iintro ⟨H0, H1, H2, ⟨%X, %hX, H3⟩, Ha⟩
    isplitl [Ha Hr]
    · isplitl [Ha]
      · iexact Ha
      · iexact Hr
    isplitl [HO]; · iexact HO
    isplitl [H0]; · iexact H0
    isplitl [H1]; · iexact H1
    isplitl [H2]
    · iexists _; isplitr; swap; · iexact H2
      ipureintro; rfl
    · iexists _; isplitr; swap; · iexact H3
      ipureintro; exact ⟨hX, fun h => absurd h (by simp)⟩
  · obtain ⟨k, rfl⟩ : ∃ k, n = k + 1 := ⟨n - 1, by omega⟩
    rw [show inv V c (Fin.castSucc (⟨k + 1, hn⟩ : Fin cfg0.N)).val (Fin.castSucc (⟨k + 1, hn⟩ : Fin cfg0.N)).isLt
        = iprop(owns (c : Thread nD τ) scratch fullShare (acc V c k (Nat.lt_of_succ_lt hn)) ∗ others c) from rfl,
      show inv V c (Fin.succ (⟨k + 1, hn⟩ : Fin cfg0.N)).val (Fin.succ (⟨k + 1, hn⟩ : Fin cfg0.N)).isLt
        = iprop(owns (c : Thread nD τ) scratch fullShare (acc V c (k + 1) hn) ∗ others c) from rfl]
    by_cases h8 : k + 1 = 8
    · obtain rfl : k = 7 := by omega
      iintro ⟨⟨Ha, Hr⟩, HO, ⟨%d0, H0⟩, ⟨%d1, H1⟩, ⟨%Y2, %h2, H2⟩, ⟨%Y3, %h3, H3⟩⟩
      have e2 := finds V c 2 rfl rfl flush0_2 _ (by simp) Y2 h2
      have e3 := finds V c 3 rfl rfl flush0_3 _ (by simp) Y3 h3
      iapply (last c _ _ (hs_0 ⟨8, hn⟩) _ (hs_1 ⟨8, hn⟩) _ (hs_2 ⟨8, hn⟩) _ (hs_3 ⟨8, hn⟩) scratch (Memref.isWhole_whole _)
        (by rw [cond1_iff]; simp) (by rw [later_iff]; simp) ((cond3_iff ⟨8, hn⟩).mpr rfl) (iblk V c 0 ⟨8, hn⟩) (iblk V c 1 ⟨8, hn⟩) Y2 Y3 _ Set.univ _)
      isplitl [H0]; · iexact H0
      isplitl [H1]; · iexact H1
      isplitl [H2]; · iexact H2
      isplitl [H3]; · iexact H3
      isplitl [Ha]; · iexact Ha
      iintro ⟨H0, H1, H2, ⟨%X, %hX, H3⟩, Ha⟩
      isplitl [Ha Hr]
      · isplitl [Ha]
        · iexact Ha
        · iexact Hr
      isplitl [HO]; · iexact HO
      isplitl [H0]; · iexact H0
      isplitl [H1]; · iexact H1
      isplitl [H2]
      · iexists _; isplitr; swap; · iexact H2
        ipureintro; exact e2
      · iexists _; isplitr; swap; · iexact H3
        ipureintro; exact ⟨hX.2.2.trans e3.1, fun _ => ⟨hX.1, hX.2.1⟩⟩
    · iintro ⟨⟨Ha, Hr⟩, HO, ⟨%d0, H0⟩, ⟨%d1, H1⟩, ⟨%Y2, %h2, H2⟩, ⟨%Y3, %h3, H3⟩⟩
      have e2 := finds V c 2 rfl rfl flush0_2 _ (by simp) Y2 h2
      have e3 := finds V c 3 rfl rfl flush0_3 _ (by simp) Y3 h3
      iapply (middle c _ _ (hs_0 ⟨k + 1, hn⟩) _ (hs_1 ⟨k + 1, hn⟩) _ (hs_2 ⟨k + 1, hn⟩) _ (hs_3 ⟨k + 1, hn⟩) scratch (Memref.isWhole_whole _)
        (by rw [cond1_iff]; simp) (by rw [later_iff]; simp) (by rw [cond3_iff]; exact h8) (iblk V c 0 ⟨k + 1, hn⟩) (iblk V c 1 ⟨k + 1, hn⟩) Y2 Y3 _ Set.univ _)
      isplitl [H0]; · iexact H0
      isplitl [H1]; · iexact H1
      isplitl [H2]; · iexact H2
      isplitl [H3]; · iexact H3
      isplitl [Ha]; · iexact Ha
      iintro ⟨H0, H1, H2, H3, Ha⟩
      isplitl [Ha Hr]
      · isplitl [Ha]
        · iexact Ha
        · iexact Hr
      isplitl [HO]; · iexact HO
      isplitl [H0]; · iexact H0
      isplitl [H1]; · iexact H1
      isplitl [H2]
      · iexists _; isplitr; swap; · iexact H2
        ipureintro; exact e2
      · iexists _; isplitr; swap; · iexact H3
        ipureintro; exact ⟨e3.1, fun h => absurd h h8⟩

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dat V c) (defs₀ (F := F)) 𝒱₀ () Set.univ fgt (Rl V c) := fun t => by
  rw [bigSep_W0, bigSep_W0, defs₀_row]
  exact sound_body V c t

end Cert.Kernel.Scales

end
-- ==== Proof.Kernel.DgradRun.lean ====
/-
  The second call (`cc1_dgrad`): what its body leaves in every buffer, and the proof data of its run over the grid.
-/
module

public import proofs.«01_k».proof.Proof.Kernel.ScalesRun
public import Idealize.ShloMosaic.Lib.Pipeline.DatRel

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The product block, from the scales, the gradient's block and the weight's codes. -/
def prodBlock (s : Vec F S3 .f32) (x : Vec F S1x512x1024 .bf16) (w : Vec F S2432x1024 .fp8e4m3) : Vec F S1x64x8x2432 .bf16 :=
  k1_pay3 x (s (ix1 1)) w (s (ix1 0)) (s (ix1 2))
/-- The block of the gradient's codes. -/
def codeBlock (s : Vec F S3 .f32) (x : Vec F S1x512x1024 .bf16) : Vec F S1x512x1024 .fp8e5m2 := k1_pay2 x (s (ix1 1))

section Run
variable (c : Dev nD) (i : grid1.Coords) (arg2 : Memref sig .tc .smem S3 .f32) (harg2 : arg2.IsWhole)
  (arg3 : Memref sig .tc .vmem S1x512x1024 .bf16) (harg3 : arg3.IsWhole) (arg4 : Memref sig .tc .vmem S2432x1024 .fp8e4m3) (harg4 : arg4.IsWhole)
  (arg5 : Memref sig .tc .vmem S1x64x8x2432 .bf16) (harg5 : arg5.IsWhole) (arg6 : Memref sig .tc .vmem S1x512x1024 .fp8e5m2) (harg6 : arg6.IsWhole)

/-- A load of a whole block reads the block; a load of one word reads the word. -/
theorem load_x (x : Vec F S1x512x1024 .bf16) : View.readAt (Elt F) arg3.view
    (Rect.unit (s := S1x512x1024) ![0, 0, 0] S1x512x1024.size inb_S1x512x1024_S1x512x1024_0_0_0).toLoadRect (harg3.unread x) = x :=
  (View.readAt_full _ _ _).trans (harg3.read_unread _)
theorem load_w (x : Vec F S2432x1024 .fp8e4m3) : View.readAt (Elt F) arg4.view
    (Rect.unit (s := S2432x1024) ![0, 0] S2432x1024.size inb_S2432x1024_S2432x1024_0_0).toLoadRect (harg4.unread x) = x :=
  (View.readAt_full _ _ _).trans (harg4.read_unread _)
theorem load_s (s : Vec F S3 .f32) (k : Nat) (hk : k < 3) (inb : ∀ a, (![k] : Fin 1 → Nat) a + S1.size a ≤ S3.size a) (j : S1.Idx) :
    View.readAt (Elt F) arg2.view (Rect.unit (s := S3) ![k] S1.size inb).toLoadRect (harg2.unread s) j = s (ix1 ⟨k, hk⟩) := by
  rw [View.readAt_eq_ld, harg2.read_unread]
  exact congrArg s (by
    funext a; match a with
    | ⟨0, _⟩ => exact Fin.ext (show k + 1 * (j 0).val = k by have : (j 0).val < 1 := (j 0).isLt; omega))

set_option maxHeartbeats 1000000 in
/-- The body writes the codes of its block of the gradient and their products with the weight's codes. -/
theorem run (x0 : Vec F S3 .f32) (x1 : Vec F S1x512x1024 .bf16) (x2 : Vec F S2432x1024 .fp8e4m3) (x3 : Vec F S1x64x8x2432 .bf16)
    (x4 : Vec F S1x512x1024 .fp8e5m2) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (prodBlock x0 x1 x2) ∗ owns (c : Thread nD τ) arg6 fullShare (codeBlock x0 x1)) -∗ K ⟨⟩))
      ⊢ wp frame (wpE (defs₀ (F := F)) Variants.none c none) E (cc1_dgrad i arg2 harg2 arg3 harg3 arg4 harg4 arg5 harg5 arg6 harg6) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ inb_S1x64x8x2432_S1x64x8x2432_0_0_0_0 _ _).trans ?_
    sl_unfold_words
    rw [load_x, load_w]
    exact congr (congr (congrFun (congrArg (k1_pay3 x1) (load_s arg2 harg2 x0 1 (by decide) _ _)) x2)
      (load_s arg2 harg2 x0 0 (by decide) _ _)) (load_s arg2 harg2 x0 2 (by decide) _ _)
  iexists _; isplitr; swap; · iexact H4
  ipureintro
  refine (View.read_writes_full _ _ inb_S1x512x1024_S1x512x1024_0_0_0 _ _).trans ?_
  sl_unfold_words
  rw [load_x]
  exact congrArg (k1_pay2 x1) (load_s arg2 harg2 x0 1 (by decide) _ _)

end Run

/-! ## The proof data -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: inputs stay, the two outputs are the body's blocks; the buffers no window stages hold anything. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => prodBlock (iblk V c 0 t) (iblk V c 1 t) (iblk V c 2 t)
    | ⟨4, _⟩ => codeBlock (iblk V c 0 t) (iblk V c 1 t)
  Φ _ := Pipeline.scopedRest (Ix := Unit) (Name := ℕ) (U := UR sig nD τ) (Lvl := ℕ) (Val := Elt F) spec1 c
  q _ := fullShare
  owed _ := 0

theorem before_0 (c : Dev nD) (t : Fin cfg1.N) (d) : (dat V c).before 0 t d = iblk V c 0 t :=
  ((dat V c).before_in_eq_fetched 0 rfl (fun _ => rfl) (fun _ _ _ => rfl) (fun t => by rfl) t d).trans
    (by unfold Dat.fetched Dat.blockOf iblk; rfl)
theorem before_1 (c : Dev nD) (t : Fin cfg1.N) (d) : (dat V c).before 1 t d = iblk V c 1 t :=
  ((dat V c).before_in_eq_fetched 1 rfl (fun _ => rfl) (fun _ _ _ => rfl) (fun t => by rfl) t d).trans
    (by unfold Dat.fetched Dat.blockOf iblk; rfl)
theorem before_2 (c : Dev nD) (t : Fin cfg1.N) (d) : (dat V c).before 2 t d = iblk V c 2 t :=
  ((dat V c).before_in_eq_fetched 2 rfl (fun _ => rfl) (fun _ _ _ => rfl) (fun t => by rfl) t d).trans
    (by unfold Dat.fetched Dat.blockOf iblk; rfl)

/-- Each window's staging memref at point `t`. -/
abbrev ms_0 (t : Fin cfg1.N) : Memref sig .tc .smem S3 .f32 := win1_0.stage (cfg1.slots t 0)
abbrev ms_1 (t : Fin cfg1.N) : Memref sig .tc .vmem S1x512x1024 .bf16 := win1_1.stage (cfg1.slots t 1)
abbrev ms_2 (t : Fin cfg1.N) : Memref sig .tc .vmem S2432x1024 .fp8e4m3 := win1_2.stage (cfg1.slots t 2)
abbrev ms_3 (t : Fin cfg1.N) : Memref sig .tc .vmem S1x64x8x2432 .bf16 := win1_3.stage (cfg1.slots t 3)
abbrev ms_4 (t : Fin cfg1.N) : Memref sig .tc .vmem S1x512x1024 .fp8e5m2 := win1_4.stage (cfg1.slots t 4)
abbrev hs_0 (t : Fin cfg1.N) : (ms_0 t).IsWhole := hstage1_0 ((cfg1.slots t 0).cast nbuf1_0)
abbrev hs_1 (t : Fin cfg1.N) : (ms_1 t).IsWhole := hstage1_1 ((cfg1.slots t 1).cast nbuf1_1)
abbrev hs_2 (t : Fin cfg1.N) : (ms_2 t).IsWhole := hstage1_2 ((cfg1.slots t 2).cast nbuf1_2)
abbrev hs_3 (t : Fin cfg1.N) : (ms_3 t).IsWhole := hstage1_3 ((cfg1.slots t 3).cast nbuf1_3)
abbrev hs_4 (t : Fin cfg1.N) : (ms_4 t).IsWhole := hstage1_4 ((cfg1.slots t 4).cast nbuf1_4)

abbrev 𝒱₀ : Variants := Variants.none

/-- What the body is handed at point `t`, and what it hands back. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))
def bodyPost (c : Dev nD) (t : Fin cfg1.N) : sProp 𝕄 :=
  iprop((dat V c).Φ t.succ ∗ (dat V c).owesAt () t.succ
    ∗ owns (c : Thread nD τ) (ms_0 t) fullShare (iblk V c 0 t)
    ∗ owns (c : Thread nD τ) (ms_1 t) fullShare (iblk V c 1 t)
    ∗ owns (c : Thread nD τ) (ms_2 t) fullShare (iblk V c 2 t)
    ∗ owns (c : Thread nD τ) (ms_3 t) fullShare (prodBlock (iblk V c 0 t) (iblk V c 1 t) (iblk V c 2 t))
    ∗ owns (c : Thread nD τ) (ms_4 t) fullShare (codeBlock (iblk V c 0 t) (iblk V c 1 t)))

theorem sound_body (c : Dev nD) (t : Fin cfg1.N) :
    bodyPre V c t ⊢ wp frame (wpE (defs₀ (F := F)) 𝒱₀ c none) Set.univ (bodyAt1 t) fun _ => bodyPost V c t := by
  unfold bodyPre bodyPost
  simp only [before_0, before_1, before_2]
  rw [show (dat V c).owesAt () t.succ = (dat V c).owesAt () t.castSucc from rfl,
    show (dat V c).Φ t.succ = (dat V c).Φ t.castSucc from rfl]
  iintro ⟨HΦ, HO, ⟨%d0, H0⟩, ⟨%d1, H1⟩, ⟨%d2, H2⟩, ⟨%d3, H3⟩, ⟨%d4, H4⟩⟩
  iapply (run c _ _ (hs_0 t) _ (hs_1 t) _ (hs_2 t) _ (hs_3 t) _ (hs_4 t) (iblk V c 0 t) (iblk V c 1 t) (iblk V c 2 t) _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

theorem defs₀_row (t : Fin cfg1.N) : defs₀ (F := F) .tc cfg1.body (cfg1.bodyArgs t (cfg1.slots t)) = bodyAt1 t := by
  unfold defs₀; rw [Defs.onTc_tc]

/-- No window is held to a predicate. -/
def fgt : Fin cfg1.W → Bool := fun _ => false
def Rl : (w : Fin cfg1.W) → Fin cfg1.N → ((cfg1.win w).block.Idx → Elt F (cfg1.win w).elt) → Prop := fun _ _ _ => True

theorem body_obligation (c : Dev nD) : Pipeline.BodyObligationRel (dat V c) (defs₀ (F := F)) 𝒱₀ () Set.univ fgt Rl := fun t => by
  rw [bigSep_W1, bigSep_W1, defs₀_row]
  exact sound_body V c t

end Cert.Kernel.Dgrad

end
-- ==== Proof.Kernel.Calls.lean ====
/-
  The two calls as segments of the whole program: what the program's arrays hold when each is entered and when it is
  left. The first call leaves the weight's codes and the three scales, the second the product and the gradient's codes.
-/
module

public import proofs.«01_k».proof.Proof.Kernel.ScalesData
public import proofs.«01_k».proof.Proof.Kernel.DgradRun
public import proofs.«01_k».proof.Proof.Gen.Kernel.Regions
public import Idealize.ShloMosaic.Lib.Pipeline.ArrRel
public import Idealize.ShloMosaic.Lib.Pipeline.Cells
public import Idealize.ShloMosaic.Lib.Pipeline.RegionsLoop

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Seg HostSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the arrays hold between the program's items -/

/-- Core `c`'s arrays when the first call is entered. -/
abbrev at1 (c : Dev nD) (b : Ref sig .tc) : Buf (Elt F) ((c : Thread nD τ).loc b) := V1 m c b

/-- The scales the first call leaves: the gradient's, its reciprocal, the weight's. -/
def scales (c : Dev nD) : Vec F S3 .f32 := fun j =>
  (![Scales.dScale (Scales.total (at1 m) c), Scales.dInv (Scales.total (at1 m) c), Scales.wScale (Scales.wBlk (at1 m) c)] : Fin 3 → F .f32) (j 0)
/-- The weight's codes. -/
def codes (c : Dev nD) : Vec F S2432x1024 .fp8e4m3 := Scales.wCodes (Scales.wBlk (at1 m) c)

/-- Core `c`'s arrays after the first call. -/
def W2 (c : Dev nD) : Valuation τ sig (Elt F) := Function.update (Function.update (V1 m c) main_v1_0 (codes m c)) main_v1_1 (scales m c)
abbrev at2 (c : Dev nD) (b : Ref sig .tc) : Buf (Elt F) ((c : Thread nD τ).loc b) := W2 m c b

/-- Core `c`'s arrays after the second call. -/
def W3 (c : Dev nD) : Valuation τ sig (Elt F) :=
  Function.update (Function.update (W2 m c) main_v2_0 ((Dgrad.dat (at2 m) c).arrAt 3 cfg1.N)) main_v2_1 ((Dgrad.dat (at2 m) c).arrAt 4 cfg1.N)
abbrev at3 (c : Dev nD) (b : Ref sig .tc) : Buf (Elt F) ((c : Thread nD τ).loc b) := W3 m c b

theorem ne_ref {r r' : Ref sig .tc} (h : r ≠ r') : (Proc.devRef .tc r : DevRef τ sig) ≠ Proc.devRef .tc r' := StableHlo.devRef_ne_of_ne h

theorem W2_codes (c : Dev nD) : at2 m c main_v1_0 = codes m c := by
  unfold at2 W2; rw [Function.update_of_ne (ne_ref (by decide)), Function.update_self]
theorem W2_scales (c : Dev nD) : at2 m c main_v1_1 = scales m c := by
  unfold at2 W2; rw [Function.update_self]
theorem W2_of (c : Dev nD) (r : Ref sig .tc) (h0 : r ≠ main_v1_0) (h1 : r ≠ main_v1_1) : at2 m c r = at1 m c r := by
  unfold at2 W2; rw [Function.update_of_ne (ne_ref h1), Function.update_of_ne (ne_ref h0)]
theorem W3_prod (c : Dev nD) : at3 m c main_v2_0 = (Dgrad.dat (at2 m) c).arrAt 3 cfg1.N := by
  unfold at3 W3; rw [Function.update_of_ne (ne_ref (by decide)), Function.update_self]
theorem W3_codes (c : Dev nD) : at3 m c main_v2_1 = (Dgrad.dat (at2 m) c).arrAt 4 cfg1.N := by
  unfold at3 W3; rw [Function.update_self]
theorem W3_of (c : Dev nD) (r : Ref sig .tc) (h0 : r ≠ main_v2_0) (h1 : r ≠ main_v2_1) : at3 m c r = at2 m c r := by
  unfold at3 W3; rw [Function.update_of_ne (ne_ref h1), Function.update_of_ne (ne_ref h0)]

/-! ## The two calls' proof data, as one family -/

def pdats : (p : Fin 2) → (c : Dev nD) → Dat τ (Elt F) Unit ℕ (UR sig nD τ) ℕ (Pipeline.pin (pcfgs (F := F)) adm p) c
  | ⟨0, _⟩ => fun c => Scales.dat (at1 m) c
  | ⟨1, _⟩ => fun c => Dgrad.dat (at2 m) c

def rdats : (p : Fin 2) → (c : Dev nD) → RDat τ (Elt F) Unit ℕ (UR sig nD τ) ℕ (Pipeline.pin (pcfgs (F := F)) adm p) c
  | ⟨0, _⟩ => fun c => (Scales.dat (at1 m) c).toRRel Scales.fgt (Scales.Rl (at1 m) c)
  | ⟨1, _⟩ => fun c => (Dgrad.dat (at2 m) c).toRRel Dgrad.fgt Dgrad.Rl

abbrev 𝒱₀ : Variants := Variants.none
/-- No core owes another anything: no level is assigned. -/
abbrev L : GSem nD τ sig → Finset Unit := fun _ => ∅
abbrev lv : GSem nD τ sig → Unit → ℕ := fun _ _ => 0

/-- What rides along beside the arrays. -/
abbrev R (c : Dev nD) : sProp 𝕄 := iprop(∃ W, owes (c : Thread nD τ) (0 : CellTallies nD τ sig Unit) W)

/-! ## What the first call leaves -/

/-- An array that some write-backs may have left at `G` only for `G = Fw` is held at `Fw`. -/
theorem arrays_of_det {cfg : Cfg sig Λ₀} {c : Dev nD} (dat : Dat τ (Elt F) Unit ℕ (UR sig nD τ) ℕ cfg c)
    (fgt : Fin cfg.W → Bool) (Rl : (w : Fin cfg.W) → Fin cfg.N → ((cfg.win w).block.Idx → Elt F (cfg.win w).elt) → Prop)
    (Fw : (w : Fin cfg.W) → Buf (Elt F) ((cfg.win w).arr.view.loc (c.tc : Thread nD τ)))
    (h : ∀ w G, (dat.toRRel fgt Rl).ArrAt w cfg.N G → G = Fw w) :
    (dat.toRRel fgt Rl).arraysAt cfg.N ⊢ (dat.arrays Fw : sProp 𝕄) := by
  unfold RDat.arraysAt Dat.arrays
  refine bigSep_mono fun w _ => ?_
  show iprop(∃ G, ⌜(dat.toRRel fgt Rl).ArrAt w cfg.N G⌝ ∗ (cfg.win w).arr.view.loc (c.tc : Thread nD τ) ↦[(cfg.win w).arr.view.set]{dat.share w} G)
    ⊢ ((cfg.win w).arr.view.loc (c.tc : Thread nD τ) ↦[(cfg.win w).arr.view.set]{dat.share w} Fw w : sProp 𝕄)
  iintro ⟨%G, %hG, H⟩
  rw [← h w G hG]
  iexact H

theorem whole_2 : (cfg0.win 2).WholeAt t0_8 := by decide +kernel
theorem whole_3 : (cfg0.win 3).WholeAt t0_8 := by decide +kernel

theorem det_codes (c : Dev nD) (G) (h : ((Scales.dat (at1 m) c).toRRel Scales.fgt (Scales.Rl (at1 m) c)).ArrAt 2 cfg0.N G) :
    G = codes m c := by
  obtain ⟨X, hX, e⟩ := RDat.ArrAt.emb_eq_of_wholeAt h whole_2
  have hX' : X = Scales.wCodes (Scales.wBlk (at1 m) c) := Dat.toRRel_leaves _ rfl hX
  funext j
  refine (e j).trans ?_
  rw [hX']; rfl

theorem det_scales (c : Dev nD) (G) (h : ((Scales.dat (at1 m) c).toRRel Scales.fgt (Scales.Rl (at1 m) c)).ArrAt 3 cfg0.N G) :
    G = scales m c := by
  obtain ⟨X, hX, e⟩ := RDat.ArrAt.emb_eq_of_wholeAt h whole_3
  have hX' : Scales.Words (at1 m) c t0_8 X := Dat.toRRel_leaves _ rfl hX
  obtain ⟨h2, h01⟩ := hX'
  obtain ⟨h0, h1⟩ := h01 rfl
  funext (j : S3.Idx)
  refine (e j).trans ?_
  obtain ⟨k, rfl⟩ : ∃ k : Fin 3, j = ix1 k := ⟨j 0, eq_ix1 j⟩
  match k with
  | 0 => exact h0
  | 1 => exact h1
  | 2 => exact h2

/-- The first call's arrays after it. -/
def F0 (c : Dev nD) : (w : Fin cfg0.W) → Buf (Elt F) ((cfg0.win w).arr.view.loc (c.tc : Thread nD τ)) :=
  fun w => at2 m c (Pipeline.arrRef spec0 w)

theorem det0 (c : Dev nD) (w : Fin cfg0.W) (G) (h : ((Scales.dat (at1 m) c).toRRel Scales.fgt (Scales.Rl (at1 m) c)).ArrAt w cfg0.N G) :
    G = F0 m c w := by
  match w with
  | ⟨0, _⟩ => exact ((congrFun (RDat.ArrAt_in _ 0 rfl _) G).mp h).trans (W2_of m c main_v0 (by decide) (by decide)).symm
  | ⟨1, _⟩ => exact ((congrFun (RDat.ArrAt_in _ 1 rfl _) G).mp h).trans (W2_of m c main_arg1 (by decide) (by decide)).symm
  | ⟨2, _⟩ => exact (det_codes m c G h).trans (W2_codes m c).symm
  | ⟨3, _⟩ => exact (det_scales m c G h).trans (W2_scales m c).symm

/-! ## The two segments -/

set_option backward.isDefEq.respectTransparency.types false in
/-- The first call. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := Pipeline.BodyObligationRel.toRRel _ (Scales.body_obligation (at1 m) c)
  hwaits := RDat.hwaits_of_owed_zero _ _ _ _ L lv 0 fun _ _ => rfl
  pre c := iprop(unscopedBufs c (at1 m c) ∗ R c)
  post c := iprop(unscopedBufs c (at2 m c) ∗ R c)
  X _ := BI.emp
  Y _ := BI.emp
  Z c := Pipeline.unscopedRest (Ix := Unit) (Name := ℕ) (U := UR sig nD τ) (Lvl := ℕ) spec0 c (at1 m c)
  hentry c := by
    rw [Pipeline.ownSems0_none]
    have hsplit := RDat.arrays_of_unscopedBufs (p := 0) (pcfgs (F := F)) adm (rdats m) launch0.win launch0.arr_whole c
      ((pdats m 0 c).share_full fun _ => rfl) (at1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = iprop((∃ X, owns (c : Thread nD τ) Scales.scratch fullShare X) ∗ Scales.others c) from rfl, ← Scales.rest_eq]
    iintro ⟨-, -, Hr⟩; iexact Hr
  hout c := by
    rw [Pipeline.ownSems0_none, show (rdats m 0 c).Φ (Fin.last _)
      = iprop(owns (c : Thread nD τ) Scales.scratch fullShare (Scales.total (at1 m) c) ∗ Scales.others c) from rfl]
    iintro ⟨Ha, Hr⟩
    isplitr; · iempintro
    isplitr; · iempintro
    iapply (Entails.of_eq (Scales.rest_eq (F := F) c).symm)
    isplitl [Ha]
    · iexists _; iexact Ha
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (at1 m c) (at2 m c) (F0 m c)
      (fun w => rfl)
      (fun b hb => W2_of m c b (fun h => hb (h ▸ Finset.mem_image.mpr ⟨2, Finset.mem_univ _, rfl⟩))
        (fun h => hb (h ▸ Finset.mem_image.mpr ⟨3, Finset.mem_univ _, rfl⟩)))
    have hdet := arrays_of_det (Scales.dat (at1 m) c) Scales.fgt (Scales.Rl (at1 m) c) (F0 m c) (det0 m c)
    iintro ⟨Ha, HO, -, Hrest⟩
    imodintro
    isplitl [Ha Hrest]
    · iapply hjoin; isplitl [Ha]
      · iapply hdet; iexact Ha
      · iexact Hrest
    unfold RDat.owesAt Pipeline.owesWithin
    icases HO with ⟨%W, -, HO⟩; iexists W; iexact HO

theorem scopedRest1 (c : Dev nD) (t) : (rdats m 1 c).Φ t
    = Pipeline.scopedRest (Ix := Unit) (Name := ℕ) (U := UR sig nD τ) (Lvl := ℕ) (Val := Elt F) spec1 c := rfl

/-- The second call's arrays after it. -/
theorem arrays1 (c : Dev nD) : (rdats m 1 c).arraysAt cfg1.N ⊢ ((Dgrad.dat (at2 m) c).arrays ((Dgrad.dat (at2 m) c).arrAt · cfg1.N) : sProp 𝕄) :=
  Entails.of_eq (Dat.toR_arraysAt_eq (Dgrad.dat (at2 m) c) cfg1.N)

set_option backward.isDefEq.respectTransparency.types false in
/-- The second call. -/
def reg1 : RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Pipeline.BodyObligationRel.toRRel _ (Dgrad.body_obligation (at2 m) c)
  hwaits := RDat.hwaits_of_owed_zero _ _ _ _ L lv 1 fun _ _ => rfl
  pre c := iprop(unscopedBufs c (at2 m c) ∗ R c)
  post c := iprop(unscopedBufs c (at3 m c) ∗ R c)
  X _ := BI.emp
  Y _ := BI.emp
  Z c := Pipeline.unscopedRest (Ix := Unit) (Name := ℕ) (U := UR sig nD τ) (Lvl := ℕ) spec1 c (at2 m c)
  hentry c := by
    rw [Pipeline.ownSems0_none]
    have hsplit := RDat.arrays_of_unscopedBufs (p := 1) (pcfgs (F := F)) adm (rdats m) launch1.win launch1.arr_whole c
      ((pdats m 1 c).share_full fun _ => rfl) (at2 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [scopedRest1]
    iintro ⟨-, -, Hr⟩; iexact Hr
  hout c := by
    rw [Pipeline.ownSems0_none, scopedRest1]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (at2 m c) (at3 m c) ((Dgrad.dat (at2 m) c).arrAt · cfg1.N)
      (fun w => by
        match w with
        | ⟨0, _⟩ => exact ((Dgrad.dat (at2 m) c).arrAt_in 0 rfl _).trans (W3_of m c main_v1_1 (by decide) (by decide)).symm
        | ⟨1, _⟩ => exact ((Dgrad.dat (at2 m) c).arrAt_in 1 rfl _).trans (W3_of m c main_arg0 (by decide) (by decide)).symm
        | ⟨2, _⟩ => exact ((Dgrad.dat (at2 m) c).arrAt_in 2 rfl _).trans (W3_of m c main_v1_0 (by decide) (by decide)).symm
        | ⟨3, _⟩ => exact (W3_prod m c).symm
        | ⟨4, _⟩ => exact (W3_codes m c).symm)
      (fun b hb => W3_of m c b (fun h => hb (h ▸ Finset.mem_image.mpr ⟨3, Finset.mem_univ _, rfl⟩))
        (fun h => hb (h ▸ Finset.mem_image.mpr ⟨4, Finset.mem_univ _, rfl⟩)))
    have hdet := arrays1 m c
    iintro ⟨Ha, HO, -, Hrest⟩
    imodintro
    isplitl [Ha Hrest]
    · iapply hjoin; isplitl [Ha]
      · iapply hdet; iexact Ha
      · iexact Hrest
    unfold RDat.owesAt Pipeline.owesWithin
    icases HO with ⟨%W, -, HO⟩; iexists W; iexact HO

end Cert.Kernel.Whole

end
-- ==== Proof.Kernel.Run.lean ====
/-
  The whole program's run: it ends, the arguments are as they were, and every result is what the program's items
  leave in its array.
-/
module

public import proofs.«01_k».proof.Proof.Kernel.Calls

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Seg HostSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s arrays at the end. -/
def W4 (c : Dev nD) : Valuation τ sig (Elt F) := StableHlo.after hostOps2 (W3 m c)
abbrev at4 (c : Dev nD) (b : Ref sig .tc) : Buf (Elt F) ((c : Thread nD τ).loc b) := W4 m c b

theorem W4_of (c : Dev nD) (r : Ref sig .tc) (h : r ∉ hostOps2_W) : at4 m c r = at3 m c r :=
  StableHlo.after_of_writes_sub hostOps2 _ hostOps2_writes h

theorem W4_arg0 (c : Dev nD) : at4 m c main_arg0 = m ((c : Thread nD τ).loc main_arg0) :=
  (W4_of m c main_arg0 (by decide)).trans <| (W3_of m c main_arg0 (by decide) (by decide)).trans <|
    (W2_of m c main_arg0 (by decide) (by decide)).trans <| (V1_of m c main_arg0 (by decide)).trans rfl
theorem W4_arg1 (c : Dev nD) : at4 m c main_arg1 = m ((c : Thread nD τ).loc main_arg1) :=
  (W4_of m c main_arg1 (by decide)).trans <| (W3_of m c main_arg1 (by decide) (by decide)).trans <|
    (W2_of m c main_arg1 (by decide) (by decide)).trans <| (V1_of m c main_arg1 (by decide)).trans rfl

/-- The host operations before the calls, and those after them. -/
def host0 : HostSeg (Ix := Unit) (Name := ℕ) (U := UR sig nD τ) (Lvl := ℕ) (pcfgs (F := F)) defs₀ 𝒱₀ L lv :=
  seg0 m 𝒱₀ L lv fun _ => R
def host3 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

/-- The program's items. -/
abbrev items : List (RDat.Seg (pcfgs (F := F)) adm (rdats m) () defs₀ 𝒱₀ L lv) :=
  [.host (host0 m), .region (reg0 m), .region (reg1 m), .host (host3 m)]

/-- What the end says of core `c`. -/
def Final (c : Dev nD) (s : MemSt nD τ sig (Elt F)) : Prop :=
  ∀ b : Ref sig .tc, Proc.devRef .tc b ∈ Pipeline.ucRefs τ sig → s.mem ((c.tc : Thread nD τ).loc b) = at4 m c b

set_option backward.isDefEq.respectTransparency.types false in
/-- The run. -/
theorem run : θ_run defs (onTc (τ := τ) (main (F := F))) ⟨m, fun _ => 0, ρ⟩
    (fun r => (∀ c : Dev nD, Final m c r.2) ∧ r.2.sem = fun _ => 0) := by
  refine RDat.θ_run_regions_kit_dev_sems (pcfgs (F := F)) adm (rdats m) () cellOf_inj emb₁ defs₀ 𝒱₀ L lv m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => BI.emp)
    (Rounds.initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := fun c => ⟨.rfl, sep_mono (Entails.of_eq (Pipeline.unscopedBufs_held (Ix := Unit) (Name := ℕ) (U := UR sig nD τ) (Lvl := ℕ) c (V1 m c)).symm) .rfl,
      .rfl, sep_mono (Entails.of_eq (Pipeline.unscopedBufs_held (Ix := Unit) (Name := ℕ) (U := UR sig nD τ) (Lvl := ℕ) c (W3 m c))) .rfl, .rfl⟩)
    (hinit := ?_) (QY := Final m)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (Rounds.initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (bigSep Finset.univ fun c : Dev nD => iprop(StableHlo.held (c : Thread nD τ) (Pipeline.ucRefs τ sig) (V0 m c) ∗ R c) : sProp 𝕄) :=
      bigSep_mono fun c _ => by
        show iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp)
          ⊢ (iprop(StableHlo.held (c : Thread nD τ) (Pipeline.ucRefs τ sig) (V0 m c) ∗ R c) : sProp 𝕄)
        rw [← Pipeline.unscopedBufs_held (Ix := Unit) (Name := ℕ) (U := UR sig nD τ) (Lvl := ℕ) c (V0 m c)]
        iintro ⟨Hb, -, HO, -⟩
        isplitl [Hb]; · iexact Hb
        iexists _; iexact HO
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) hb
    · iexact HSI

theorem mem_uc (b : Ref sig .tc) (h : ¬ (Proc.devRef (τ := τ) .tc b).isScoped := by decide) : Proc.devRef .tc b ∈ Pipeline.ucRefs τ sig :=
  Finset.mem_filter.mpr ⟨StableHlo.devRef_mem_tcRefs b, h⟩

/-- The run with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 (mem_uc main_arg0)).trans (W4_arg0 m c),
    (h.1 c main_arg1 (mem_uc main_arg1)).trans (W4_arg1 m c)⟩, h.2⟩) (run m ρ)

end Cert.Kernel.Whole

end
-- ==== Proof.Spec.lean ====
/-
  The mathematics both programs compute, on extended reals and plain indices, with no program in sight:

    absMax f        — the largest absolute value of a family;
    exponent a x    — the exponent of the scale of an array whose largest absolute value is `a`, where `x` is `a` over the
                      largest value of the byte format: one more than the floor of the logarithm of `x` to base two, and
                      zero for a zero array and for an `x` outside the floats' normal range;
    scale, inverse  — the scale, two to that exponent, and its reciprocal, two to the opposite exponent;
    code lo hi s v  — one entry `v` brought to the scale: `v · s` clipped to `[lo, hi]` (over the reals the cast to the byte
                      format is the identity);
    product         — one entry of the product: the sum over the 1024 output features of a gradient code times a weight
                      code, times the product of the two scales.
-/
module

public import Idealize.ShloMosaic.PureOps.Ideal
public import Idealize.ShloMosaic.Lib.ValueIdx

@[expose] public section

noncomputable section

namespace Cert.Spec

open Idealize.ShloMosaic

/-- The largest absolute value of a family of numbers. -/
def absMax {ι : Type} (f : ι → EReal) : EReal := ⨆ i, max (f i) (-(f i))

/-- The exponent of the scale. -/
def exponent (a x : EReal) : ℤ :=
  if a ≠ 0 ∧ (((2 : ℝ) ^ (-126 : ℤ) : ℝ) : EReal) ≤ x ∧ x < (((2 : ℝ) ^ (126 : ℤ) : ℝ) : EReal)
  then ⌊Real.log x.toReal / Real.log 2⌋ + 1 else 0

/-- The scale of an array with largest absolute value `a`, for a byte format whose largest value has reciprocal `r`. -/
def scale (r a : EReal) : EReal := (((2 : ℝ) ^ exponent a (a * r) : ℝ) : EReal)
/-- The reciprocal of the scale. -/
def inverse (r a : EReal) : EReal := (((2 : ℝ) ^ (-exponent a (a * r)) : ℝ) : EReal)

/-- One entry as a code: times the inverse scale, clipped. -/
def code (lo hi s v : EReal) : EReal := min hi (max lo (v * s))

/-- The reciprocal of 57344, the largest value of the gradient's byte format, as the float word both programs write; -/
abbrev dRecip : EReal := Ideal.ofBits .f32 0x37924925#32
/-- 57344 -/
abbrev dTop : EReal := Ideal.ofBits .f32 0x47600000#32
/-- and its negative. -/
abbrev dBot : EReal := Ideal.ofBits .f32 0xC7600000#32
/-- The reciprocal of 448, the largest value of the weight's byte format, as the float word both programs write; -/
abbrev wRecip : EReal := Ideal.ofBits .f32 0x3B124925#32
/-- 448 -/
abbrev wTop : EReal := Ideal.ofBits .f32 0x43E00000#32
/-- and its negative. -/
abbrev wBot : EReal := Ideal.ofBits .f32 0xC3E00000#32

/-- One entry of the product: gradient row `x`, weight codes `y`, inverse gradient scale `s`, scales `a` and `b`. -/
def product (s a b : EReal) (x y : Fin 1024 → EReal) : EReal := (∑ k : Fin 1024, code dBot dTop s (x k) * y k) * (a * b)

end Cert.Spec

end
-- ==== Proof.KernelIdeal.Block.lean ====
/-
  The two blocks the second call's body stores, entry by entry, over the extended reals.
-/
module

public import proofs.«01_k».proof.Proof.Spec
public import proofs.«01_k».proof.Proof.Gen.KernelIdeal.Skeleton
public import Idealize.ShloMosaic.Lib.MatmulPlain
public import Idealize.ShloMosaic.Lib.Pipeline.Value
public import Idealize.ShloMosaic.PureOps.Ideal

@[expose] public section

noncomputable section

namespace Cert.KernelIdeal.Block

open Idealize.ShloMosaic
open Cert.KernelIdeal Cert.KernelIdeal.Gen Idealize.ShloMosaic.ValueIdx Cert.Spec

/-- A change of shape to the same shape changes nothing. -/
theorem shapeCast_self {s : Shape} {α : Type} (x : s.Idx → α) (h : s.ShapeCasts s) : shapeCast s x h = x :=
  funext fun j => shapeCast_apply x h j j rfl

/-- The codes before the leading unit axis is put back: entry (r, k) is the code of the block's entry (0, r, k). -/
theorem pay1_apply (v0 : Vec Ideal S1x512x1024 .bf16) (v2 : Elt Ideal .f32) (r : Fin 512) (k : Fin 1024) :
    k1_pay1 (F := Ideal) v0 v2 (ix2 r k) = code dBot dTop v2 (v0 (ix3 0 r k)) := by
  unfold k1_pay1
  simp only [truncf_apply, minimumf_apply, maximumf_apply, mulf_apply, extf_apply, broadcast_apply]
  rw [shapeCast_apply v0 _ (ix2 r k) (ix3 0 r k) (by
    rw [Shape.rowMajor_val_three, Shape.rowMajor_val_two]
    show ((0 : ℕ) * 512 + r.val) * 1024 + k.val = r.val * 1024 + k.val
    omega)]
  rfl

/-- The block of codes as stored. -/
theorem pay2_apply (v0 : Vec Ideal S1x512x1024 .bf16) (v2 : Elt Ideal .f32) (r : Fin 512) (k : Fin 1024) :
    k1_pay2 (F := Ideal) v0 v2 (ix3 0 r k) = code dBot dTop v2 (v0 (ix3 0 r k)) := by
  unfold k1_pay2
  rw [shapeCast_apply _ _ (ix3 0 r k) (ix2 r k) (by
    rw [Shape.rowMajor_val_three, Shape.rowMajor_val_two]
    show r.val * 1024 + k.val = ((0 : ℕ) * 512 + r.val) * 1024 + k.val
    omega)]
  exact pay1_apply v0 v2 r k

/-- The product block as stored: entry (0, a, b, n) is the product of the block's row `8 a + b` with weight row `n`. -/
theorem pay3_apply (v0 : Vec Ideal S1x512x1024 .bf16) (v2 : Elt Ideal .f32) (w : Vec Ideal S2432x1024 .fp8e4m3)
    (a0 a2 : Elt Ideal .f32) (a : Fin 64) (b : Fin 8) (n : Fin 2432) (r : Fin 512) (hr : r.val = a.val * 8 + b.val) :
    k1_pay3 (F := Ideal) v0 v2 w a0 a2 (ix4 0 a b n)
      = product v2 a0 a2 (fun k => v0 (ix3 0 r k)) (fun k => w (ix2 n k)) := by
  unfold k1_pay3
  rw [shapeCast_self w]
  rw [shapeCast_apply _ _ (ix4 0 a b n) (ix3 a b n) (by
    rw [Shape.rowMajor_val_four, Shape.rowMajor_val_three]
    show (a.val * 8 + b.val) * 2432 + n.val = (((0 : ℕ) * 64 + a.val) * 8 + b.val) * 2432 + n.val
    omega)]
  rw [shapeCast_apply _ _ (ix3 a b n) (ix2 r n) (by
    rw [Shape.rowMajor_val_three, Shape.rowMajor_val_two]
    show r.val * 2432 + n.val = (a.val * 8 + b.val) * 2432 + n.val
    rw [hr])]
  simp only [truncf_apply, mulf_apply, broadcast_apply]
  unfold product
  refine congrArg (· * (a0 * a2)) ?_
  refine (Ideal.matmul_transposedRhs_apply (M := 512) (K := 1024) (N := 2432) none (k1_pay1 (F := Ideal) v0 v2) w _ r n).trans ?_
  rw [constant_apply, show Ideal.ofBits .f32 0x00000000#32 = 0 from Ideal.ofBits_zero_f32, zero_add]
  exact Finset.sum_congr rfl fun k _ => by rw [pay1_apply]

end Cert.KernelIdeal.Block

end
-- ==== Proof.KernelIdeal.ScalesRun.lean ====
/-
  The first call (`cc0_scales`) run on any staging buffers, one theorem for each of its three cases: the first
  block, a block in the middle, the last block. Each says what the body leaves in every buffer.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pointwise.Index
public import Idealize.ShloMosaic.Lib.Writes
public import Idealize.ShloMosaic.Lib.VecWindow
public import Idealize.ShloMosaic.Lib.CellWrites
public import Idealize.ShloMosaic.Lib.Ring
public import Idealize.ShloMosaic.Lib.Tactic
public import Idealize.ShloMosaic.Lib.WordCmp

@[expose] public section

set_option maxRecDepth 16384

noncomputable section

namespace Cert.KernelIdeal.Scales

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running maximum after the first block. -/
def start (x : Vec F S2048x1024 .bf16) : Vec F S16x1024 .f32 := k0_pay7 (k0_pay1 x)
/-- The running maximum after a later block. -/
def next (x : Vec F S2048x1024 .bf16) (a : Vec F S16x1024 .f32) : Vec F S16x1024 .f32 := k0_pay4 x a
/-- The exponent of the weight's scale, at every lane. -/
def wExp (w : Vec F S2432x1024 .f32) : IVec S8x128 32 := k0_pay12 (k0_pay8 w) (k0_pay9 w) (k0_pay10 w) (k0_pay11 w)
/-- The weight's codes. -/
def wCodes (w : Vec F S2432x1024 .f32) : Vec F S2432x1024 .fp8e4m3 := k0_pay2 w (wExp w) 0#32
/-- The weight's scale. -/
def wScale (w : Vec F S2432x1024 .f32) : F .f32 := k0_pay3 (k0_pay13 (k0_pay8 w) (k0_pay9 w) (k0_pay10 w) (k0_pay11 w))
/-- The gradient's scale, from the running maximum after all blocks. -/
def dScale (a : Vec F S16x1024 .f32) : F .f32 := k0_pay5 (k0_pay18 (k0_pay14 a) (k0_pay15 a) (k0_pay16 a) 4#32)
/-- The reciprocal of the gradient's scale. -/
def dInv (a : Vec F S16x1024 .f32) : F .f32 := k0_pay6 (k0_pay19 (k0_pay14 a) (k0_pay15 a) (k0_pay16 a) 4#32) k0_pay20

/-- Whether the body is past the first block, as the body computes it. -/
def later (i : grid0.Coords) : BitVec 1 := Scalar.cmpi .ne (Scalar.extui (Scalar.cmpi .sgt (BitVec.ofNat 32 (i 0).val) 0#32) : BitVec 32) 0#32

variable (c : Dev nD) (i : grid0.Coords) (arg1 : Memref sig .tc .vmem S2048x1024 .bf16) (harg1 : arg1.IsWhole)
  (arg2 : Memref sig .tc .vmem S2432x1024 .f32) (harg2 : arg2.IsWhole) (arg3 : Memref sig .tc .vmem S2432x1024 .fp8e4m3) (harg3 : arg3.IsWhole)
  (arg4 : Memref sig .tc .smem S3 .f32) (harg4 : arg4.IsWhole) (arg5 : Memref sig .tc .vmem S16x1024 .f32) (harg5 : arg5.IsWhole)

/-- The one index of a one-word rectangle. -/
abbrev word (k : Fin 3) : S3.Idx := ix1 k

/-- A load of a whole block reads the block. -/
theorem load_x (x : Vec F S2048x1024 .bf16) : View.readAt (Elt F) arg1.view
    (Rect.unit (s := S2048x1024) ![0, 0] S2048x1024.size inb_S2048x1024_S2048x1024_0_0).toLoadRect (harg1.unread x) = x :=
  (View.readAt_full _ _ _).trans (harg1.read_unread _)
theorem load_w (x : Vec F S2432x1024 .f32) : View.readAt (Elt F) arg2.view
    (Rect.unit (s := S2432x1024) ![0, 0] S2432x1024.size inb_S2432x1024_S2432x1024_0_0).toLoadRect (harg2.unread x) = x :=
  (View.readAt_full _ _ _).trans (harg2.read_unread _)
theorem load_a (x : Vec F S16x1024 .f32) : View.readAt (Elt F) arg5.view
    (Rect.unit (s := S16x1024) ![0, 0] S16x1024.size inb_S16x1024_S16x1024_0_0).toLoadRect (harg5.unread x) = x :=
  (View.readAt_full _ _ _).trans (harg5.read_unread _)

set_option maxHeartbeats 1000000 in
/-- The first block: the running maximum starts, the weight's codes and scale are written. -/
theorem first (h1 : k0_cond1 i = 1#1) (h2 : ¬ later i = 1#1) (h3 : ¬ k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare (wCodes x1)
            ∗ (∃ X, ⌜X (word 2) = wScale x1⌝ ∗ owns (c : Thread nD τ) arg4 fullShare X) ∗ owns (c : Thread nD τ) arg5 fullShare (start x0)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [k0_part1_eq_skeleton, k0_part2_eq_skeleton]; unfold k0_part1_skel k0_part2_skel
  simp only [dif_pos h1, dif_neg h2, dif_neg h3]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ inb_S2432x1024_S2432x1024_0_0 _ _).trans ?_
    dsimp only
    rw [load_w]; rfl
  isplitl [H3]
  · iexists _; isplitr; swap
    · iexists _; isplitr; swap; · iexact H3
      ipureintro; rfl
    ipureintro
    refine (View.read_writes_cons_cell _ _ inb_S3_S1_2 _ _ _).trans ((if_pos rfl).trans ?_)
    rw [load_w]; rfl
  iexists _; isplitr; swap; · iexact H4
  ipureintro
  refine (View.read_writes_full _ _ inb_S16x1024_S16x1024_0_0 _ _).trans ?_
  rw [load_x]; rfl

set_option maxHeartbeats 1000000 in
/-- A block in the middle: the running maximum goes on, nothing else changes. -/
theorem middle (h1 : ¬ k0_cond1 i = 1#1) (h2 : later i = 1#1) (h3 : ¬ k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (next x0 x4)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [dif_neg h1, dif_pos h2, dif_neg h3]
  unfold owns
  iintro ⟨⟨%f0, %hf0, H0⟩, H1, H2, H3, ⟨%f4, %hf4, H4⟩, Hk⟩
  obtain rfl := harg1.eq_unread hf0; obtain rfl := harg5.eq_unread hf4
  sl_exec
  sl_step
  iapply Hk
  isplitl [H0]
  · iexists _; isplitr; · ipureintro; exact harg1.read_unread _
    iexact H0
  isplitl [H1]; · iexact H1
  isplitl [H2]; · iexact H2
  isplitl [H3]; · iexact H3
  iexists _; isplitr; swap; · iexact H4
  ipureintro
  refine (View.read_writes_full _ _ inb_S16x1024_S16x1024_0_0 _ _).trans ?_
  rw [load_x, load_a]; rfl

set_option maxHeartbeats 1000000 in
/-- The last block: the running maximum ends and the gradient's scale and its reciprocal are written. -/
theorem last (h1 : ¬ k0_cond1 i = 1#1) (h2 : later i = 1#1) (h3 : k0_cond3 i = 1#1)
    (x0 : Vec F S2048x1024 .bf16) (x1 : Vec F S2432x1024 .f32) (x2 : Vec F S2432x1024 .fp8e4m3) (x3 : Vec F S3 .f32) (x4 : Vec F S16x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2
            ∗ (∃ X, ⌜X (word 0) = dScale (next x0 x4) ∧ X (word 1) = dInv (next x0 x4) ∧ X (word 2) = x3 (word 2)⌝
                ∗ owns (c : Thread nD τ) arg4 fullShare X) ∗ owns (c : Thread nD τ) arg5 fullShare (next x0 x4)) -∗ K ⟨⟩))
      ⊢ wp frame (wpE (defs₀ (F := F)) Variants.none c none) E (cc0_scales i arg1 harg1 arg2 harg2 arg3 harg3 arg4 harg4 arg5 harg5) K := by
  unfold later at h2
  simp only [cc0_scales_eq_skeleton]; unfold cc0_scales_skel
  simp only [k0_part3_eq_skeleton, k0_part4_eq_skeleton]; unfold k0_part3_skel k0_part4_skel
  simp only [dif_neg h1, dif_pos h2, dif_pos h3]
  unfold owns
  iintro ⟨⟨%f0, %hf0, H0⟩, H1, H2, ⟨%f3, %hf3, H3⟩, ⟨%f4, %hf4, H4⟩, Hk⟩
  obtain rfl := harg1.eq_unread hf0; obtain rfl := harg5.eq_unread hf4
  sl_exec
  sl_step
  iapply Hk
  isplitl [H0]
  · iexists _; isplitr; · ipureintro; exact harg1.read_unread _
    iexact H0
  isplitl [H1]; · iexact H1
  isplitl [H2]; · iexact H2
  isplitl [H3]
  · iexists _; isplitr; swap
    · iexists _; isplitr; swap; · iexact H3
      ipureintro; rfl
    ipureintro
    refine ⟨?_, ?_, ?_⟩
    · refine (View.read_writes_cons_cell _ _ inb_S3_S1_1 _ _ _).trans ((if_neg (by decide)).trans ?_)
      refine (View.read_writes_cons_cell _ _ inb_S3_S1_0 _ _ _).trans ((if_pos rfl).trans ?_)
      sl_unfold_words
      rw [View.readCov_full _ inb_S16x1024_S16x1024_0_0 inb_S16x1024_S16x1024_0_0, load_x, load_a]; rfl
    · refine (View.read_writes_cons_cell _ _ inb_S3_S1_1 _ _ _).trans ((if_pos rfl).trans ?_)
      sl_unfold_words
      rw [View.readCov_full _ inb_S16x1024_S16x1024_0_0 inb_S16x1024_S16x1024_0_0, load_x, load_a]; rfl
    · refine (View.read_writes_cons_cell _ _ inb_S3_S1_1 _ _ _).trans ((if_neg (by decide)).trans ?_)
      refine (View.read_writes_cons_cell _ _ inb_S3_S1_0 _ _ _).trans ((if_neg (by decide)).trans ?_)
      exact congrFun hf3 _
  iexists _; isplitr; swap; · iexact H4
  ipureintro
  refine (View.read_writes_full _ _ inb_S16x1024_S16x1024_0_0 _ _).trans ?_
  rw [load_x, load_a]; rfl

end Cert.KernelIdeal.Scales

end
-- ==== Proof.KernelIdeal.ScalesData.lean ====
/-
  The first call over its grid: what every buffer holds between its points, and that the body keeps it so.
  The two outputs are written at the first point and (the scales) at the last one only, so between points they are
  held to a predicate: the weight's codes and scale from the first point on, all three words after the last one.
-/
module

public import proofs.«01_k».proof.Proof.KernelIdeal.ScalesRun
public import Idealize.ShloMosaic.Lib.Pipeline.DatRel

@[expose] public section

set_option maxRecDepth 16384

noncomputable section

namespace Cert.KernelIdeal.Scales

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gradient's block at point `t`. -/
abbrev dBlk (c : Dev nD) (t : Fin cfg0.N) : Vec F S2048x1024 .bf16 := iblk V c 0 t
/-- The weight. -/
abbrev wBlk (c : Dev nD) : Vec F S2432x1024 .f32 := iblk V c 1 t0_0

/-- The running maximum after point `n`. -/
def acc (c : Dev nD) : (n : ℕ) → n < cfg0.N → Vec F S16x1024 .f32
  | 0, h => start (dBlk V c ⟨0, h⟩)
  | n + 1, h => next (dBlk V c ⟨n + 1, h⟩) (acc c n (Nat.lt_of_succ_lt h))

/-- The running maximum after the last point. -/
def total (c : Dev nD) : Vec F S16x1024 .f32 := acc V c 8 (by decide)

/-- The buffers of the other call, held at anything. -/
def others (c : Dev nD) : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg0_0), ((c : Thread nD τ).loc cc1_stg0_0) ↦{fullShare} f))

/-- The scratch that holds the running maximum. -/
abbrev scratch : Memref sig .tc .vmem S16x1024 .f32 := Memref.whole cc0_scratch0

/-- The buffers the pipeline does not stage: the scratch and the other call's. -/
theorem rest_eq (c : Dev nD) : (Pipeline.scopedRest (Ix := Unit) (Name := ℕ) (U := UR sig nD τ) (Lvl := ℕ) (Val := Elt F) spec0 c : sProp 𝕄)
    = iprop((∃ X, owns (c : Thread nD τ) scratch fullShare X) ∗ others c) := by
  rw [scopedRest0_eq]
  simp only [scratch, owns_whole]
  rfl

/-- What holds between points beside the windows: the scratch at the running maximum. -/
def inv (c : Dev nD) : (t : ℕ) → t < cfg0.N + 1 → sProp 𝕄
  | 0, _ => iprop((∃ X, owns (c : Thread nD τ) scratch fullShare X) ∗ others c)
  | n + 1, h => iprop(owns (c : Thread nD τ) scratch fullShare (acc V c n (Nat.lt_of_succ_lt_succ h)) ∗ others c)

/-- The exact part of the proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => fun _ => Classical.arbitrary _
    | ⟨3, _⟩ => fun _ => Classical.arbitrary _
  Φ t := inv V c t.val t.isLt
  q _ := fullShare
  owed _ := 0

/-- The outputs are the windows held to a predicate. -/
def fgt : Fin cfg0.W → Bool
  | ⟨0, _⟩ => false
  | ⟨1, _⟩ => false
  | ⟨2, _⟩ => true
  | ⟨3, _⟩ => true

/-- The three words of the scales after point `t`. -/
def Words (c : Dev nD) (t : Fin cfg0.N) (X : Vec F S3 .f32) : Prop :=
  X (word 2) = wScale (wBlk V c) ∧ (t.val = 8 → X (word 0) = dScale (total V c) ∧ X (word 1) = dInv (total V c))

/-- What each output's staging buffer holds after point `t`. -/
def Rl (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ X => X = wCodes (wBlk V c)
  | ⟨3, _⟩ => fun t X => Words V c t X

theorem before_0 (c : Dev nD) (t : Fin cfg0.N) (d) : (dat V c).before 0 t d = iblk V c 0 t :=
  ((dat V c).before_in_eq_fetched 0 rfl (fun _ => rfl) (fun _ _ _ => rfl) (fun t => by rfl) t d).trans
    (by unfold Dat.fetched Dat.blockOf iblk; rfl)
theorem before_1 (c : Dev nD) (t : Fin cfg0.N) (d) : (dat V c).before 1 t d = iblk V c 1 t :=
  ((dat V c).before_in_eq_fetched 1 rfl (fun _ => rfl) (fun _ _ _ => rfl) (fun t => by rfl) t d).trans
    (by unfold Dat.fetched Dat.blockOf iblk; rfl)

/-- Each window's staging memref at point `t`. -/
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2432x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2432x1024 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .smem S3 .f32 := win0_3.stage (cfg0.slots t 3)
abbrev hs_3 (t : Fin cfg0.N) : (ms_3 t).IsWhole := hstage0_3 ((cfg0.slots t 3).cast nbuf0_3)

/-- The conditions of the three cases over the points. -/
theorem cond1_iff : ∀ t : Fin cfg0.N, k0_cond1 (grid0.coords t) = 1#1 ↔ t.val = 0 := by decide +kernel
theorem later_iff : ∀ t : Fin cfg0.N, later (grid0.coords t) = 1#1 ↔ t.val ≠ 0 := by decide +kernel
theorem cond3_iff : ∀ t : Fin cfg0.N, k0_cond3 (grid0.coords t) = 1#1 ↔ t.val = 8 := by decide +kernel

/-- What an output's buffer holds when a later point's body runs is what the point before left there. -/
theorem finds (c : Dev nD) (w : Fin cfg0.W) (hw : fgt w = true) (hout : (cfg0.win w).isOut = true)
    (hflush : ∀ t : Fin cfg0.N, (cfg0.win w).flush t = true ↔ t.val % 9 = 8) (t : Fin cfg0.N) (ht : t.val ≠ 0) (Y)
    (h : ((dat V c).toRRel fgt (Rl V c)).Finds w t Y) : Rl V c w ⟨t.val - 1, Nat.lt_of_le_of_lt (Nat.sub_le _ _) t.isLt⟩ Y := by
  have hN : t.val < 9 := t.isLt
  have hf : (cfg0.win w).fetch t = false := by unfold Window.fetch; rw [hout]; rfl
  rcases (RDat.finds_of_pos _ hf ht Y).mp h with h | h
  · rw [hflush] at h; simp only at h; omega
  · exact Dat.toRRel_leaves _ hw h

abbrev 𝒱₀ : Variants := Variants.none

/-- What the body is handed at point `t`, and what it hands back. -/
def bodyPre (c : Dev nD) (t : Fin cfg0.N) : sProp 𝕄 :=
  iprop(inv V c t.castSucc.val t.castSucc.isLt ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ Y, ⌜((dat V c).toRRel fgt (Rl V c)).Finds 2 t Y⌝ ∗ owns (c : Thread nD τ) (ms_2 t) fullShare Y)
    ∗ (∃ Y, ⌜((dat V c).toRRel fgt (Rl V c)).Finds 3 t Y⌝ ∗ owns (c : Thread nD τ) (ms_3 t) fullShare Y))
def bodyPost (c : Dev nD) (t : Fin cfg0.N) : sProp 𝕄 :=
  iprop(inv V c t.succ.val t.succ.isLt ∗ (dat V c).owesAt () t.succ
    ∗ owns (c : Thread nD τ) (ms_0 t) fullShare (iblk V c 0 t)
    ∗ owns (c : Thread nD τ) (ms_1 t) fullShare (iblk V c 1 t)
    ∗ (∃ X, ⌜Rl V c 2 t X⌝ ∗ owns (c : Thread nD τ) (ms_2 t) fullShare X)
    ∗ (∃ X, ⌜Rl V c 3 t X⌝ ∗ owns (c : Thread nD τ) (ms_3 t) fullShare X))

set_option maxHeartbeats 1000000 in
theorem sound_body (c : Dev nD) (t : Fin cfg0.N) :
    bodyPre V c t ⊢ wp frame (wpE (defs₀ (F := F)) 𝒱₀ c none) Set.univ (bodyAt0 t) fun _ => bodyPost V c t := by
  unfold bodyPre bodyPost
  simp only [before_0, before_1]
  rw [show (dat V c).owesAt () t.succ = (dat V c).owesAt () t.castSucc from rfl]
  obtain ⟨n, hn⟩ := t
  have hN : n < 9 := hn
  by_cases h0 : n = 0
  · subst h0
    rw [show inv V c (Fin.castSucc (⟨0, hn⟩ : Fin cfg0.N)).val (Fin.castSucc (⟨0, hn⟩ : Fin cfg0.N)).isLt
        = iprop((∃ X, owns (c : Thread nD τ) scratch fullShare X) ∗ others c) from rfl,
      show inv V c (Fin.succ (⟨0, hn⟩ : Fin cfg0.N)).val (Fin.succ (⟨0, hn⟩ : Fin cfg0.N)).isLt
        = iprop(owns (c : Thread nD τ) scratch fullShare (acc V c 0 hn) ∗ others c) from rfl]
    iintro ⟨⟨⟨%a, Ha⟩, Hr⟩, HO, ⟨%d0, H0⟩, ⟨%d1, H1⟩, ⟨%Y2, -, H2⟩, ⟨%Y3, -, H3⟩⟩
    iapply (first c _ _ (hs_0 ⟨0, hn⟩) _ (hs_1 ⟨0, hn⟩) _ (hs_2 ⟨0, hn⟩) _ (hs_3 ⟨0, hn⟩) scratch (Memref.isWhole_whole _)
      ((cond1_iff ⟨0, hn⟩).mpr rfl) (by rw [later_iff]; simp) (by rw [cond3_iff]; simp) (iblk V c 0 ⟨0, hn⟩) (iblk V c 1 ⟨0, hn⟩) Y2 Y3 a Set.univ _)
    isplitl [H0]; · iexact H0
    isplitl [H1]; · iexact H1
    isplitl [H2]; · iexact H2
    isplitl [H3]; · iexact H3
    isplitl [Ha]; · iexact Ha
    iintro ⟨H0, H1, H2, ⟨%X, %hX, H3⟩, Ha⟩
    isplitl [Ha Hr]
    · isplitl [Ha]
      · iexact Ha
      · iexact Hr
    isplitl [HO]; · iexact HO
    isplitl [H0]; · iexact H0
    isplitl [H1]; · iexact H1
    isplitl [H2]
    · iexists _; isplitr; swap; · iexact H2
      ipureintro; rfl
    · iexists _; isplitr; swap; · iexact H3
      ipureintro; exact ⟨hX, fun h => absurd h (by simp)⟩
  · obtain ⟨k, rfl⟩ : ∃ k, n = k + 1 := ⟨n - 1, by omega⟩
    rw [show inv V c (Fin.castSucc (⟨k + 1, hn⟩ : Fin cfg0.N)).val (Fin.castSucc (⟨k + 1, hn⟩ : Fin cfg0.N)).isLt
        = iprop(owns (c : Thread nD τ) scratch fullShare (acc V c k (Nat.lt_of_succ_lt hn)) ∗ others c) from rfl,
      show inv V c (Fin.succ (⟨k + 1, hn⟩ : Fin cfg0.N)).val (Fin.succ (⟨k + 1, hn⟩ : Fin cfg0.N)).isLt
        = iprop(owns (c : Thread nD τ) scratch fullShare (acc V c (k + 1) hn) ∗ others c) from rfl]
    by_cases h8 : k + 1 = 8
    · obtain rfl : k = 7 := by omega
      iintro ⟨⟨Ha, Hr⟩, HO, ⟨%d0, H0⟩, ⟨%d1, H1⟩, ⟨%Y2, %h2, H2⟩, ⟨%Y3, %h3, H3⟩⟩
      have e2 := finds V c 2 rfl rfl flush0_2 _ (by simp) Y2 h2
      have e3 := finds V c 3 rfl rfl flush0_3 _ (by simp) Y3 h3
      iapply (last c _ _ (hs_0 ⟨8, hn⟩) _ (hs_1 ⟨8, hn⟩) _ (hs_2 ⟨8, hn⟩) _ (hs_3 ⟨8, hn⟩) scratch (Memref.isWhole_whole _)
        (by rw [cond1_iff]; simp) (by rw [later_iff]; simp) ((cond3_iff ⟨8, hn⟩).mpr rfl) (iblk V c 0 ⟨8, hn⟩) (iblk V c 1 ⟨8, hn⟩) Y2 Y3 _ Set.univ _)
      isplitl [H0]; · iexact H0
      isplitl [H1]; · iexact H1
      isplitl [H2]; · iexact H2
      isplitl [H3]; · iexact H3
      isplitl [Ha]; · iexact Ha
      iintro ⟨H0, H1, H2, ⟨%X, %hX, H3⟩, Ha⟩
      isplitl [Ha Hr]
      · isplitl [Ha]
        · iexact Ha
        · iexact Hr
      isplitl [HO]; · iexact HO
      isplitl [H0]; · iexact H0
      isplitl [H1]; · iexact H1
      isplitl [H2]
      · iexists _; isplitr; swap; · iexact H2
        ipureintro; exact e2
      · iexists _; isplitr; swap; · iexact H3
        ipureintro; exact ⟨hX.2.2.trans e3.1, fun _ => ⟨hX.1, hX.2.1⟩⟩
    · iintro ⟨⟨Ha, Hr⟩, HO, ⟨%d0, H0⟩, ⟨%d1, H1⟩, ⟨%Y2, %h2, H2⟩, ⟨%Y3, %h3, H3⟩⟩
      have e2 := finds V c 2 rfl rfl flush0_2 _ (by simp) Y2 h2
      have e3 := finds V c 3 rfl rfl flush0_3 _ (by simp) Y3 h3
      iapply (middle c _ _ (hs_0 ⟨k + 1, hn⟩) _ (hs_1 ⟨k + 1, hn⟩) _ (hs_2 ⟨k + 1, hn⟩) _ (hs_3 ⟨k + 1, hn⟩) scratch (Memref.isWhole_whole _)
        (by rw [cond1_iff]; simp) (by rw [later_iff]; simp) (by rw [cond3_iff]; exact h8) (iblk V c 0 ⟨k + 1, hn⟩) (iblk V c 1 ⟨k + 1, hn⟩) Y2 Y3 _ Set.univ _)
      isplitl [H0]; · iexact H0
      isplitl [H1]; · iexact H1
      isplitl [H2]; · iexact H2
      isplitl [H3]; · iexact H3
      isplitl [Ha]; · iexact Ha
      iintro ⟨H0, H1, H2, H3, Ha⟩
      isplitl [Ha Hr]
      · isplitl [Ha]
        · iexact Ha
        · iexact Hr
      isplitl [HO]; · iexact HO
      isplitl [H0]; · iexact H0
      isplitl [H1]; · iexact H1
      isplitl [H2]
      · iexists _; isplitr; swap; · iexact H2
        ipureintro; exact e2
      · iexists _; isplitr; swap; · iexact H3
        ipureintro; exact ⟨e3.1, fun h => absurd h h8⟩

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dat V c) (defs₀ (F := F)) 𝒱₀ () Set.univ fgt (Rl V c) := fun t => by
  rw [bigSep_W0, bigSep_W0, defs₀_row]
  exact sound_body V c t

end Cert.KernelIdeal.Scales

end
-- ==== Proof.KernelIdeal.DgradRun.lean ====
/-
  The second call (`cc1_dgrad`): what its body leaves in every buffer, and the proof data of its run over the grid.
-/
module

public import proofs.«01_k».proof.Proof.KernelIdeal.ScalesRun
public import Idealize.ShloMosaic.Lib.Pipeline.DatRel

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The product block, from the scales, the gradient's block and the weight's codes. -/
def prodBlock (s : Vec F S3 .f32) (x : Vec F S1x512x1024 .bf16) (w : Vec F S2432x1024 .fp8e4m3) : Vec F S1x64x8x2432 .bf16 :=
  k1_pay3 x (s (ix1 1)) w (s (ix1 0)) (s (ix1 2))
/-- The block of the gradient's codes. -/
def codeBlock (s : Vec F S3 .f32) (x : Vec F S1x512x1024 .bf16) : Vec F S1x512x1024 .fp8e5m2 := k1_pay2 x (s (ix1 1))

section Run
variable (c : Dev nD) (i : grid1.Coords) (arg2 : Memref sig .tc .smem S3 .f32) (harg2 : arg2.IsWhole)
  (arg3 : Memref sig .tc .vmem S1x512x1024 .bf16) (harg3 : arg3.IsWhole) (arg4 : Memref sig .tc .vmem S2432x1024 .fp8e4m3) (harg4 : arg4.IsWhole)
  (arg5 : Memref sig .tc .vmem S1x64x8x2432 .bf16) (harg5 : arg5.IsWhole) (arg6 : Memref sig .tc .vmem S1x512x1024 .fp8e5m2) (harg6 : arg6.IsWhole)

/-- A load of a whole block reads the block; a load of one word reads the word. -/
theorem load_x (x : Vec F S1x512x1024 .bf16) : View.readAt (Elt F) arg3.view
    (Rect.unit (s := S1x512x1024) ![0, 0, 0] S1x512x1024.size inb_S1x512x1024_S1x512x1024_0_0_0).toLoadRect (harg3.unread x) = x :=
  (View.readAt_full _ _ _).trans (harg3.read_unread _)
theorem load_w (x : Vec F S2432x1024 .fp8e4m3) : View.readAt (Elt F) arg4.view
    (Rect.unit (s := S2432x1024) ![0, 0] S2432x1024.size inb_S2432x1024_S2432x1024_0_0).toLoadRect (harg4.unread x) = x :=
  (View.readAt_full _ _ _).trans (harg4.read_unread _)
theorem load_s (s : Vec F S3 .f32) (k : Nat) (hk : k < 3) (inb : ∀ a, (![k] : Fin 1 → Nat) a + S1.size a ≤ S3.size a) (j : S1.Idx) :
    View.readAt (Elt F) arg2.view (Rect.unit (s := S3) ![k] S1.size inb).toLoadRect (harg2.unread s) j = s (ix1 ⟨k, hk⟩) := by
  rw [View.readAt_eq_ld, harg2.read_unread]
  exact congrArg s (by
    funext a; match a with
    | ⟨0, _⟩ => exact Fin.ext (show k + 1 * (j 0).val = k by have : (j 0).val < 1 := (j 0).isLt; omega))

set_option maxHeartbeats 1000000 in
/-- The body writes the codes of its block of the gradient and their products with the weight's codes. -/
theorem run (x0 : Vec F S3 .f32) (x1 : Vec F S1x512x1024 .bf16) (x2 : Vec F S2432x1024 .fp8e4m3) (x3 : Vec F S1x64x8x2432 .bf16)
    (x4 : Vec F S1x512x1024 .fp8e5m2) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (prodBlock x0 x1 x2) ∗ owns (c : Thread nD τ) arg6 fullShare (codeBlock x0 x1)) -∗ K ⟨⟩))
      ⊢ wp frame (wpE (defs₀ (F := F)) Variants.none c none) E (cc1_dgrad i arg2 harg2 arg3 harg3 arg4 harg4 arg5 harg5 arg6 harg6) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ inb_S1x64x8x2432_S1x64x8x2432_0_0_0_0 _ _).trans ?_
    sl_unfold_words
    rw [load_x, load_w]
    exact congr (congr (congrFun (congrArg (k1_pay3 x1) (load_s arg2 harg2 x0 1 (by decide) _ _)) x2)
      (load_s arg2 harg2 x0 0 (by decide) _ _)) (load_s arg2 harg2 x0 2 (by decide) _ _)
  iexists _; isplitr; swap; · iexact H4
  ipureintro
  refine (View.read_writes_full _ _ inb_S1x512x1024_S1x512x1024_0_0_0 _ _).trans ?_
  sl_unfold_words
  rw [load_x]
  exact congrArg (k1_pay2 x1) (load_s arg2 harg2 x0 1 (by decide) _ _)

end Run

/-! ## The proof data -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: inputs stay, the two outputs are the body's blocks; the buffers no window stages hold anything. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => prodBlock (iblk V c 0 t) (iblk V c 1 t) (iblk V c 2 t)
    | ⟨4, _⟩ => codeBlock (iblk V c 0 t) (iblk V c 1 t)
  Φ _ := Pipeline.scopedRest (Ix := Unit) (Name := ℕ) (U := UR sig nD τ) (Lvl := ℕ) (Val := Elt F) spec1 c
  q _ := fullShare
  owed _ := 0

theorem before_0 (c : Dev nD) (t : Fin cfg1.N) (d) : (dat V c).before 0 t d = iblk V c 0 t :=
  ((dat V c).before_in_eq_fetched 0 rfl (fun _ => rfl) (fun _ _ _ => rfl) (fun t => by rfl) t d).trans
    (by unfold Dat.fetched Dat.blockOf iblk; rfl)
theorem before_1 (c : Dev nD) (t : Fin cfg1.N) (d) : (dat V c).before 1 t d = iblk V c 1 t :=
  ((dat V c).before_in_eq_fetched 1 rfl (fun _ => rfl) (fun _ _ _ => rfl) (fun t => by rfl) t d).trans
    (by unfold Dat.fetched Dat.blockOf iblk; rfl)
theorem before_2 (c : Dev nD) (t : Fin cfg1.N) (d) : (dat V c).before 2 t d = iblk V c 2 t :=
  ((dat V c).before_in_eq_fetched 2 rfl (fun _ => rfl) (fun _ _ _ => rfl) (fun t => by rfl) t d).trans
    (by unfold Dat.fetched Dat.blockOf iblk; rfl)

/-- Each window's staging memref at point `t`. -/
abbrev ms_0 (t : Fin cfg1.N) : Memref sig .tc .smem S3 .f32 := win1_0.stage (cfg1.slots t 0)
abbrev ms_1 (t : Fin cfg1.N) : Memref sig .tc .vmem S1x512x1024 .bf16 := win1_1.stage (cfg1.slots t 1)
abbrev ms_2 (t : Fin cfg1.N) : Memref sig .tc .vmem S2432x1024 .fp8e4m3 := win1_2.stage (cfg1.slots t 2)
abbrev ms_3 (t : Fin cfg1.N) : Memref sig .tc .vmem S1x64x8x2432 .bf16 := win1_3.stage (cfg1.slots t 3)
abbrev ms_4 (t : Fin cfg1.N) : Memref sig .tc .vmem S1x512x1024 .fp8e5m2 := win1_4.stage (cfg1.slots t 4)
abbrev hs_0 (t : Fin cfg1.N) : (ms_0 t).IsWhole := hstage1_0 ((cfg1.slots t 0).cast nbuf1_0)
abbrev hs_1 (t : Fin cfg1.N) : (ms_1 t).IsWhole := hstage1_1 ((cfg1.slots t 1).cast nbuf1_1)
abbrev hs_2 (t : Fin cfg1.N) : (ms_2 t).IsWhole := hstage1_2 ((cfg1.slots t 2).cast nbuf1_2)
abbrev hs_3 (t : Fin cfg1.N) : (ms_3 t).IsWhole := hstage1_3 ((cfg1.slots t 3).cast nbuf1_3)
abbrev hs_4 (t : Fin cfg1.N) : (ms_4 t).IsWhole := hstage1_4 ((cfg1.slots t 4).cast nbuf1_4)

abbrev 𝒱₀ : Variants := Variants.none

/-- What the body is handed at point `t`, and what it hands back. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))
def bodyPost (c : Dev nD) (t : Fin cfg1.N) : sProp 𝕄 :=
  iprop((dat V c).Φ t.succ ∗ (dat V c).owesAt () t.succ
    ∗ owns (c : Thread nD τ) (ms_0 t) fullShare (iblk V c 0 t)
    ∗ owns (c : Thread nD τ) (ms_1 t) fullShare (iblk V c 1 t)
    ∗ owns (c : Thread nD τ) (ms_2 t) fullShare (iblk V c 2 t)
    ∗ owns (c : Thread nD τ) (ms_3 t) fullShare (prodBlock (iblk V c 0 t) (iblk V c 1 t) (iblk V c 2 t))
    ∗ owns (c : Thread nD τ) (ms_4 t) fullShare (codeBlock (iblk V c 0 t) (iblk V c 1 t)))

theorem sound_body (c : Dev nD) (t : Fin cfg1.N) :
    bodyPre V c t ⊢ wp frame (wpE (defs₀ (F := F)) 𝒱₀ c none) Set.univ (bodyAt1 t) fun _ => bodyPost V c t := by
  unfold bodyPre bodyPost
  simp only [before_0, before_1, before_2]
  rw [show (dat V c).owesAt () t.succ = (dat V c).owesAt () t.castSucc from rfl,
    show (dat V c).Φ t.succ = (dat V c).Φ t.castSucc from rfl]
  iintro ⟨HΦ, HO, ⟨%d0, H0⟩, ⟨%d1, H1⟩, ⟨%d2, H2⟩, ⟨%d3, H3⟩, ⟨%d4, H4⟩⟩
  iapply (run c _ _ (hs_0 t) _ (hs_1 t) _ (hs_2 t) _ (hs_3 t) _ (hs_4 t) (iblk V c 0 t) (iblk V c 1 t) (iblk V c 2 t) _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

theorem defs₀_row (t : Fin cfg1.N) : defs₀ (F := F) .tc cfg1.body (cfg1.bodyArgs t (cfg1.slots t)) = bodyAt1 t := by
  unfold defs₀; rw [Defs.onTc_tc]

/-- No window is held to a predicate. -/
def fgt : Fin cfg1.W → Bool := fun _ => false
def Rl : (w : Fin cfg1.W) → Fin cfg1.N → ((cfg1.win w).block.Idx → Elt F (cfg1.win w).elt) → Prop := fun _ _ _ => True

theorem body_obligation (c : Dev nD) : Pipeline.BodyObligationRel (dat V c) (defs₀ (F := F)) 𝒱₀ () Set.univ fgt Rl := fun t => by
  rw [bigSep_W1, bigSep_W1, defs₀_row]
  exact sound_body V c t

end Cert.KernelIdeal.Dgrad

end
-- ==== Proof.KernelIdeal.Calls.lean ====
/-
  The two calls as segments of the whole program: what the program's arrays hold when each is entered and when it is
  left. The first call leaves the weight's codes and the three scales, the second the product and the gradient's codes.
-/
module

public import proofs.«01_k».proof.Proof.KernelIdeal.ScalesData
public import proofs.«01_k».proof.Proof.KernelIdeal.DgradRun
public import proofs.«01_k».proof.Proof.Gen.KernelIdeal.Regions
public import Idealize.ShloMosaic.Lib.Pipeline.ArrRel
public import Idealize.ShloMosaic.Lib.Pipeline.Cells
public import Idealize.ShloMosaic.Lib.Pipeline.RegionsLoop

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Seg HostSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the arrays hold between the program's items -/

/-- Core `c`'s arrays when the first call is entered. -/
abbrev at1 (c : Dev nD) (b : Ref sig .tc) : Buf (Elt F) ((c : Thread nD τ).loc b) := V1 m c b

/-- The scales the first call leaves: the gradient's, its reciprocal, the weight's. -/
def scales (c : Dev nD) : Vec F S3 .f32 := fun j =>
  (![Scales.dScale (Scales.total (at1 m) c), Scales.dInv (Scales.total (at1 m) c), Scales.wScale (Scales.wBlk (at1 m) c)] : Fin 3 → F .f32) (j 0)
/-- The weight's codes. -/
def codes (c : Dev nD) : Vec F S2432x1024 .fp8e4m3 := Scales.wCodes (Scales.wBlk (at1 m) c)

/-- Core `c`'s arrays after the first call. -/
def W2 (c : Dev nD) : Valuation τ sig (Elt F) := Function.update (Function.update (V1 m c) main_v1_0 (codes m c)) main_v1_1 (scales m c)
abbrev at2 (c : Dev nD) (b : Ref sig .tc) : Buf (Elt F) ((c : Thread nD τ).loc b) := W2 m c b

/-- Core `c`'s arrays after the second call. -/
def W3 (c : Dev nD) : Valuation τ sig (Elt F) :=
  Function.update (Function.update (W2 m c) main_v2_0 ((Dgrad.dat (at2 m) c).arrAt 3 cfg1.N)) main_v2_1 ((Dgrad.dat (at2 m) c).arrAt 4 cfg1.N)
abbrev at3 (c : Dev nD) (b : Ref sig .tc) : Buf (Elt F) ((c : Thread nD τ).loc b) := W3 m c b

theorem ne_ref {r r' : Ref sig .tc} (h : r ≠ r') : (Proc.devRef .tc r : DevRef τ sig) ≠ Proc.devRef .tc r' := StableHlo.devRef_ne_of_ne h

theorem W2_codes (c : Dev nD) : at2 m c main_v1_0 = codes m c := by
  unfold at2 W2; rw [Function.update_of_ne (ne_ref (by decide)), Function.update_self]
theorem W2_scales (c : Dev nD) : at2 m c main_v1_1 = scales m c := by
  unfold at2 W2; rw [Function.update_self]
theorem W2_of (c : Dev nD) (r : Ref sig .tc) (h0 : r ≠ main_v1_0) (h1 : r ≠ main_v1_1) : at2 m c r = at1 m c r := by
  unfold at2 W2; rw [Function.update_of_ne (ne_ref h1), Function.update_of_ne (ne_ref h0)]
theorem W3_prod (c : Dev nD) : at3 m c main_v2_0 = (Dgrad.dat (at2 m) c).arrAt 3 cfg1.N := by
  unfold at3 W3; rw [Function.update_of_ne (ne_ref (by decide)), Function.update_self]
theorem W3_codes (c : Dev nD) : at3 m c main_v2_1 = (Dgrad.dat (at2 m) c).arrAt 4 cfg1.N := by
  unfold at3 W3; rw [Function.update_self]
theorem W3_of (c : Dev nD) (r : Ref sig .tc) (h0 : r ≠ main_v2_0) (h1 : r ≠ main_v2_1) : at3 m c r = at2 m c r := by
  unfold at3 W3; rw [Function.update_of_ne (ne_ref h1), Function.update_of_ne (ne_ref h0)]

/-! ## The two calls' proof data, as one family -/

def pdats : (p : Fin 2) → (c : Dev nD) → Dat τ (Elt F) Unit ℕ (UR sig nD τ) ℕ (Pipeline.pin (pcfgs (F := F)) adm p) c
  | ⟨0, _⟩ => fun c => Scales.dat (at1 m) c
  | ⟨1, _⟩ => fun c => Dgrad.dat (at2 m) c

def rdats : (p : Fin 2) → (c : Dev nD) → RDat τ (Elt F) Unit ℕ (UR sig nD τ) ℕ (Pipeline.pin (pcfgs (F := F)) adm p) c
  | ⟨0, _⟩ => fun c => (Scales.dat (at1 m) c).toRRel Scales.fgt (Scales.Rl (at1 m) c)
  | ⟨1, _⟩ => fun c => (Dgrad.dat (at2 m) c).toRRel Dgrad.fgt Dgrad.Rl

abbrev 𝒱₀ : Variants := Variants.none
/-- No core owes another anything: no level is assigned. -/
abbrev L : GSem nD τ sig → Finset Unit := fun _ => ∅
abbrev lv : GSem nD τ sig → Unit → ℕ := fun _ _ => 0

/-- What rides along beside the arrays. -/
abbrev R (c : Dev nD) : sProp 𝕄 := iprop(∃ W, owes (c : Thread nD τ) (0 : CellTallies nD τ sig Unit) W)

/-! ## What the first call leaves -/

/-- An array that some write-backs may have left at `G` only for `G = Fw` is held at `Fw`. -/
theorem arrays_of_det {cfg : Cfg sig Λ₀} {c : Dev nD} (dat : Dat τ (Elt F) Unit ℕ (UR sig nD τ) ℕ cfg c)
    (fgt : Fin cfg.W → Bool) (Rl : (w : Fin cfg.W) → Fin cfg.N → ((cfg.win w).block.Idx → Elt F (cfg.win w).elt) → Prop)
    (Fw : (w : Fin cfg.W) → Buf (Elt F) ((cfg.win w).arr.view.loc (c.tc : Thread nD τ)))
    (h : ∀ w G, (dat.toRRel fgt Rl).ArrAt w cfg.N G → G = Fw w) :
    (dat.toRRel fgt Rl).arraysAt cfg.N ⊢ (dat.arrays Fw : sProp 𝕄) := by
  unfold RDat.arraysAt Dat.arrays
  refine bigSep_mono fun w _ => ?_
  show iprop(∃ G, ⌜(dat.toRRel fgt Rl).ArrAt w cfg.N G⌝ ∗ (cfg.win w).arr.view.loc (c.tc : Thread nD τ) ↦[(cfg.win w).arr.view.set]{dat.share w} G)
    ⊢ ((cfg.win w).arr.view.loc (c.tc : Thread nD τ) ↦[(cfg.win w).arr.view.set]{dat.share w} Fw w : sProp 𝕄)
  iintro ⟨%G, %hG, H⟩
  rw [← h w G hG]
  iexact H

theorem whole_2 : (cfg0.win 2).WholeAt t0_8 := by decide +kernel
theorem whole_3 : (cfg0.win 3).WholeAt t0_8 := by decide +kernel

theorem det_codes (c : Dev nD) (G) (h : ((Scales.dat (at1 m) c).toRRel Scales.fgt (Scales.Rl (at1 m) c)).ArrAt 2 cfg0.N G) :
    G = codes m c := by
  obtain ⟨X, hX, e⟩ := RDat.ArrAt.emb_eq_of_wholeAt h whole_2
  have hX' : X = Scales.wCodes (Scales.wBlk (at1 m) c) := Dat.toRRel_leaves _ rfl hX
  funext j
  refine (e j).trans ?_
  rw [hX']; rfl

theorem det_scales (c : Dev nD) (G) (h : ((Scales.dat (at1 m) c).toRRel Scales.fgt (Scales.Rl (at1 m) c)).ArrAt 3 cfg0.N G) :
    G = scales m c := by
  obtain ⟨X, hX, e⟩ := RDat.ArrAt.emb_eq_of_wholeAt h whole_3
  have hX' : Scales.Words (at1 m) c t0_8 X := Dat.toRRel_leaves _ rfl hX
  obtain ⟨h2, h01⟩ := hX'
  obtain ⟨h0, h1⟩ := h01 rfl
  funext (j : S3.Idx)
  refine (e j).trans ?_
  obtain ⟨k, rfl⟩ : ∃ k : Fin 3, j = ix1 k := ⟨j 0, eq_ix1 j⟩
  match k with
  | 0 => exact h0
  | 1 => exact h1
  | 2 => exact h2

/-- The first call's arrays after it. -/
def F0 (c : Dev nD) : (w : Fin cfg0.W) → Buf (Elt F) ((cfg0.win w).arr.view.loc (c.tc : Thread nD τ)) :=
  fun w => at2 m c (Pipeline.arrRef spec0 w)

theorem det0 (c : Dev nD) (w : Fin cfg0.W) (G) (h : ((Scales.dat (at1 m) c).toRRel Scales.fgt (Scales.Rl (at1 m) c)).ArrAt w cfg0.N G) :
    G = F0 m c w := by
  match w with
  | ⟨0, _⟩ => exact ((congrFun (RDat.ArrAt_in _ 0 rfl _) G).mp h).trans (W2_of m c main_v0 (by decide) (by decide)).symm
  | ⟨1, _⟩ => exact ((congrFun (RDat.ArrAt_in _ 1 rfl _) G).mp h).trans (W2_of m c main_arg1 (by decide) (by decide)).symm
  | ⟨2, _⟩ => exact (det_codes m c G h).trans (W2_codes m c).symm
  | ⟨3, _⟩ => exact (det_scales m c G h).trans (W2_scales m c).symm

/-! ## The two segments -/

set_option backward.isDefEq.respectTransparency.types false in
/-- The first call. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := Pipeline.BodyObligationRel.toRRel _ (Scales.body_obligation (at1 m) c)
  hwaits := RDat.hwaits_of_owed_zero _ _ _ _ L lv 0 fun _ _ => rfl
  pre c := iprop(unscopedBufs c (at1 m c) ∗ R c)
  post c := iprop(unscopedBufs c (at2 m c) ∗ R c)
  X _ := BI.emp
  Y _ := BI.emp
  Z c := Pipeline.unscopedRest (Ix := Unit) (Name := ℕ) (U := UR sig nD τ) (Lvl := ℕ) spec0 c (at1 m c)
  hentry c := by
    rw [Pipeline.ownSems0_none]
    have hsplit := RDat.arrays_of_unscopedBufs (p := 0) (pcfgs (F := F)) adm (rdats m) launch0.win launch0.arr_whole c
      ((pdats m 0 c).share_full fun _ => rfl) (at1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = iprop((∃ X, owns (c : Thread nD τ) Scales.scratch fullShare X) ∗ Scales.others c) from rfl, ← Scales.rest_eq]
    iintro ⟨-, -, Hr⟩; iexact Hr
  hout c := by
    rw [Pipeline.ownSems0_none, show (rdats m 0 c).Φ (Fin.last _)
      = iprop(owns (c : Thread nD τ) Scales.scratch fullShare (Scales.total (at1 m) c) ∗ Scales.others c) from rfl]
    iintro ⟨Ha, Hr⟩
    isplitr; · iempintro
    isplitr; · iempintro
    iapply (Entails.of_eq (Scales.rest_eq (F := F) c).symm)
    isplitl [Ha]
    · iexists _; iexact Ha
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (at1 m c) (at2 m c) (F0 m c)
      (fun w => rfl)
      (fun b hb => W2_of m c b (fun h => hb (h ▸ Finset.mem_image.mpr ⟨2, Finset.mem_univ _, rfl⟩))
        (fun h => hb (h ▸ Finset.mem_image.mpr ⟨3, Finset.mem_univ _, rfl⟩)))
    have hdet := arrays_of_det (Scales.dat (at1 m) c) Scales.fgt (Scales.Rl (at1 m) c) (F0 m c) (det0 m c)
    iintro ⟨Ha, HO, -, Hrest⟩
    imodintro
    isplitl [Ha Hrest]
    · iapply hjoin; isplitl [Ha]
      · iapply hdet; iexact Ha
      · iexact Hrest
    unfold RDat.owesAt Pipeline.owesWithin
    icases HO with ⟨%W, -, HO⟩; iexists W; iexact HO

theorem scopedRest1 (c : Dev nD) (t) : (rdats m 1 c).Φ t
    = Pipeline.scopedRest (Ix := Unit) (Name := ℕ) (U := UR sig nD τ) (Lvl := ℕ) (Val := Elt F) spec1 c := rfl

/-- The second call's arrays after it. -/
theorem arrays1 (c : Dev nD) : (rdats m 1 c).arraysAt cfg1.N ⊢ ((Dgrad.dat (at2 m) c).arrays ((Dgrad.dat (at2 m) c).arrAt · cfg1.N) : sProp 𝕄) :=
  Entails.of_eq (Dat.toR_arraysAt_eq (Dgrad.dat (at2 m) c) cfg1.N)

set_option backward.isDefEq.respectTransparency.types false in
/-- The second call. -/
def reg1 : RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Pipeline.BodyObligationRel.toRRel _ (Dgrad.body_obligation (at2 m) c)
  hwaits := RDat.hwaits_of_owed_zero _ _ _ _ L lv 1 fun _ _ => rfl
  pre c := iprop(unscopedBufs c (at2 m c) ∗ R c)
  post c := iprop(unscopedBufs c (at3 m c) ∗ R c)
  X _ := BI.emp
  Y _ := BI.emp
  Z c := Pipeline.unscopedRest (Ix := Unit) (Name := ℕ) (U := UR sig nD τ) (Lvl := ℕ) spec1 c (at2 m c)
  hentry c := by
    rw [Pipeline.ownSems0_none]
    have hsplit := RDat.arrays_of_unscopedBufs (p := 1) (pcfgs (F := F)) adm (rdats m) launch1.win launch1.arr_whole c
      ((pdats m 1 c).share_full fun _ => rfl) (at2 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [scopedRest1]
    iintro ⟨-, -, Hr⟩; iexact Hr
  hout c := by
    rw [Pipeline.ownSems0_none, scopedRest1]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (at2 m c) (at3 m c) ((Dgrad.dat (at2 m) c).arrAt · cfg1.N)
      (fun w => by
        match w with
        | ⟨0, _⟩ => exact ((Dgrad.dat (at2 m) c).arrAt_in 0 rfl _).trans (W3_of m c main_v1_1 (by decide) (by decide)).symm
        | ⟨1, _⟩ => exact ((Dgrad.dat (at2 m) c).arrAt_in 1 rfl _).trans (W3_of m c main_arg0 (by decide) (by decide)).symm
        | ⟨2, _⟩ => exact ((Dgrad.dat (at2 m) c).arrAt_in 2 rfl _).trans (W3_of m c main_v1_0 (by decide) (by decide)).symm
        | ⟨3, _⟩ => exact (W3_prod m c).symm
        | ⟨4, _⟩ => exact (W3_codes m c).symm)
      (fun b hb => W3_of m c b (fun h => hb (h ▸ Finset.mem_image.mpr ⟨3, Finset.mem_univ _, rfl⟩))
        (fun h => hb (h ▸ Finset.mem_image.mpr ⟨4, Finset.mem_univ _, rfl⟩)))
    have hdet := arrays1 m c
    iintro ⟨Ha, HO, -, Hrest⟩
    imodintro
    isplitl [Ha Hrest]
    · iapply hjoin; isplitl [Ha]
      · iapply hdet; iexact Ha
      · iexact Hrest
    unfold RDat.owesAt Pipeline.owesWithin
    icases HO with ⟨%W, -, HO⟩; iexists W; iexact HO

end Cert.KernelIdeal.Whole

end
-- ==== Proof.KernelIdeal.Run.lean ====
/-
  The whole program's run: it ends, the arguments are as they were, and every result is what the program's items
  leave in its array.
-/
module

public import proofs.«01_k».proof.Proof.KernelIdeal.Calls

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Seg HostSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s arrays at the end. -/
def W4 (c : Dev nD) : Valuation τ sig (Elt F) := StableHlo.after hostOps2 (W3 m c)
abbrev at4 (c : Dev nD) (b : Ref sig .tc) : Buf (Elt F) ((c : Thread nD τ).loc b) := W4 m c b

theorem W4_of (c : Dev nD) (r : Ref sig .tc) (h : r ∉ hostOps2_W) : at4 m c r = at3 m c r :=
  StableHlo.after_of_writes_sub hostOps2 _ hostOps2_writes h

theorem W4_arg0 (c : Dev nD) : at4 m c main_arg0 = m ((c : Thread nD τ).loc main_arg0) :=
  (W4_of m c main_arg0 (by decide)).trans <| (W3_of m c main_arg0 (by decide) (by decide)).trans <|
    (W2_of m c main_arg0 (by decide) (by decide)).trans <| (V1_of m c main_arg0 (by decide)).trans rfl
theorem W4_arg1 (c : Dev nD) : at4 m c main_arg1 = m ((c : Thread nD τ).loc main_arg1) :=
  (W4_of m c main_arg1 (by decide)).trans <| (W3_of m c main_arg1 (by decide) (by decide)).trans <|
    (W2_of m c main_arg1 (by decide) (by decide)).trans <| (V1_of m c main_arg1 (by decide)).trans rfl

/-- The host operations before the calls, and those after them. -/
def host0 : HostSeg (Ix := Unit) (Name := ℕ) (U := UR sig nD τ) (Lvl := ℕ) (pcfgs (F := F)) defs₀ 𝒱₀ L lv :=
  seg0 m 𝒱₀ L lv fun _ => R
def host3 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

/-- The program's items. -/
abbrev items : List (RDat.Seg (pcfgs (F := F)) adm (rdats m) () defs₀ 𝒱₀ L lv) :=
  [.host (host0 m), .region (reg0 m), .region (reg1 m), .host (host3 m)]

/-- What the end says of core `c`. -/
def Final (c : Dev nD) (s : MemSt nD τ sig (Elt F)) : Prop :=
  ∀ b : Ref sig .tc, Proc.devRef .tc b ∈ Pipeline.ucRefs τ sig → s.mem ((c.tc : Thread nD τ).loc b) = at4 m c b

set_option backward.isDefEq.respectTransparency.types false in
/-- The run. -/
theorem run : θ_run defs (onTc (τ := τ) (main (F := F))) ⟨m, fun _ => 0, ρ⟩
    (fun r => (∀ c : Dev nD, Final m c r.2) ∧ r.2.sem = fun _ => 0) := by
  refine RDat.θ_run_regions_kit_dev_sems (pcfgs (F := F)) adm (rdats m) () cellOf_inj emb₁ defs₀ 𝒱₀ L lv m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => BI.emp)
    (Rounds.initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := fun c => ⟨.rfl, sep_mono (Entails.of_eq (Pipeline.unscopedBufs_held (Ix := Unit) (Name := ℕ) (U := UR sig nD τ) (Lvl := ℕ) c (V1 m c)).symm) .rfl,
      .rfl, sep_mono (Entails.of_eq (Pipeline.unscopedBufs_held (Ix := Unit) (Name := ℕ) (U := UR sig nD τ) (Lvl := ℕ) c (W3 m c))) .rfl, .rfl⟩)
    (hinit := ?_) (QY := Final m)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (Rounds.initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (bigSep Finset.univ fun c : Dev nD => iprop(StableHlo.held (c : Thread nD τ) (Pipeline.ucRefs τ sig) (V0 m c) ∗ R c) : sProp 𝕄) :=
      bigSep_mono fun c _ => by
        show iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp)
          ⊢ (iprop(StableHlo.held (c : Thread nD τ) (Pipeline.ucRefs τ sig) (V0 m c) ∗ R c) : sProp 𝕄)
        rw [← Pipeline.unscopedBufs_held (Ix := Unit) (Name := ℕ) (U := UR sig nD τ) (Lvl := ℕ) c (V0 m c)]
        iintro ⟨Hb, -, HO, -⟩
        isplitl [Hb]; · iexact Hb
        iexists _; iexact HO
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) hb
    · iexact HSI

theorem mem_uc (b : Ref sig .tc) (h : ¬ (Proc.devRef (τ := τ) .tc b).isScoped := by decide) : Proc.devRef .tc b ∈ Pipeline.ucRefs τ sig :=
  Finset.mem_filter.mpr ⟨StableHlo.devRef_mem_tcRefs b, h⟩

/-- The run with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 (mem_uc main_arg0)).trans (W4_arg0 m c),
    (h.1 c main_arg1 (mem_uc main_arg1)).trans (W4_arg1 m c)⟩, h.2⟩) (run m ρ)

end Cert.KernelIdeal.Whole

end
-- ==== Proof.Exponent.lean ====
/-
  Two ways of finding the exponent of a power-of-two scale, and that both give the specification's (`Cert.Spec.exponent`).

    The kernel builds the exponent field of a float word bit by bit from the top: it keeps a bit if the power of two that
    the word so far denotes does not exceed `x`. The word with field `n` and no fraction denotes `place n`; the search
    ends at the greatest `n ≤ 255` with `place n ≤ x` (`search_spec`).
    The reference takes the floor of `log x / log 2`, plus one.
-/
module

public import proofs.«01_k».proof.Proof.Spec
public import Idealize.ShloMosaic.PureOps.Ideal.Laws

@[expose] public section

noncomputable section

namespace Cert.Spec

open Idealize.ShloMosaic

/-! ## Float words that are powers of two -/

/-- What the float word with exponent field `n` and no fraction denotes. -/
def place (n : ℕ) : EReal := if n = 0 then 0 else if n = 255 then ⊤ else (((2 : ℝ) ^ ((n : ℤ) - 127) : ℝ) : EReal)

/-- The word with exponent field `f`. -/
def word (f : BitVec 32) : BitVec 32 := IntOp.shli .vector f 23#32

theorem word_fields : ∀ n : Fin 256, ((word (BitVec.ofNat 32 n.val)).extractLsb' 31 1 == 1#1) = false
    ∧ ((word (BitVec.ofNat 32 n.val)).extractLsb' 23 8).toNat = n.val
    ∧ ((word (BitVec.ofNat 32 n.val)).extractLsb' 0 23).toNat = 0 := by decide +kernel

/-- A word with no sign, exponent field `n` and no fraction denotes `place n`. -/
theorem ieee_of_fields (b : BitVec 32) (n : ℕ) (h1 : (b.extractLsb' (8 + 23) 1 == 1#1) = false)
    (h2 : (b.extractLsb' 23 8).toNat = n) (h3 : (b.extractLsb' 0 23).toNat = 0) : Ideal.ieee 8 23 b = place n := by
  unfold Ideal.ieee place
  simp only [h1, h2, h3]
  by_cases h255 : n = 255
  · subst h255; norm_num
  · by_cases h0 : n = 0
    · subst h0; norm_num
    · have h255' : ¬ n = 2 ^ 8 - 1 := by norm_num; exact h255
      rw [if_neg h255', if_neg h0, if_neg h0, if_neg h255]
      refine congrArg _ ?_
      have e : ((n : ℤ) - 127) = 23 + ((n : ℤ) - (2 ^ (8 - 1) - 1) - (23 : ℕ)) := by norm_num
      rw [e, zpow_add₀ (by norm_num : (2 : ℝ) ≠ 0)]
      norm_num

theorem ofBits_word (n : ℕ) (h : n < 256) : Ideal.ofBits .f32 (word (BitVec.ofNat 32 n)) = place n :=
  ieee_of_fields _ n (word_fields ⟨n, h⟩).1 (word_fields ⟨n, h⟩).2.1 (word_fields ⟨n, h⟩).2.2

theorem place_zero : place 0 = 0 := by simp [place]

/-! ## The search -/

/-- One step: set the bit `b` of the field if the power of two then denoted does not exceed `x`. -/
def step (x : EReal) (b f : BitVec 32) : BitVec 32 :=
  if Ideal.cmp .ole (Ideal.ofBits .f32 (word (f + b))) x = 1#1 then f + b else f

/-- The field after all eight steps. -/
def search (x : EReal) : BitVec 32 :=
  step x 1#32 (step x 2#32 (step x 4#32 (step x 8#32 (step x 16#32 (step x 32#32 (step x 64#32 (step x 128#32 0#32)))))))

/-- Where a search stands when the bits from `d` on are settled. -/
def Stands (x : EReal) (d : ℕ) (f : BitVec 32) : Prop :=
  ∃ n : ℕ, f = BitVec.ofNat 32 n ∧ n + d ≤ 256 ∧ place n ≤ x ∧ (n + d = 256 ∨ x < place (n + d))

theorem step_stands {x : EReal} {d : ℕ} {f : BitVec 32} (hd : 0 < d) (h : Stands x (2 * d) f) :
    Stands x d (step x (BitVec.ofNat 32 d) f) := by
  obtain ⟨n, rfl, hle, hx, hlt⟩ := h
  unfold step
  rw [← BitVec.ofNat_add, ofBits_word (n + d) (by omega)]
  by_cases hc : place (n + d) ≤ x
  · rw [if_pos (by simp [Ideal.cmp, hc])]
    exact ⟨n + d, rfl, by omega, hc, by rw [show n + d + d = n + 2 * d by omega]; exact hlt⟩
  · rw [if_neg (by simp [Ideal.cmp, hc])]
    exact ⟨n, rfl, by omega, hx, Or.inr (not_le.mp hc)⟩

/-- The search ends at the greatest field whose power of two does not exceed `x`. -/
theorem search_spec {x : EReal} (hx : 0 ≤ x) :
    ∃ n : ℕ, search x = BitVec.ofNat 32 n ∧ n < 256 ∧ place n ≤ x ∧ (n = 255 ∨ x < place (n + 1)) := by
  have h0 : Stands x (2 * 128) 0#32 := ⟨0, rfl, by norm_num, by rwa [place_zero], Or.inl rfl⟩
  obtain ⟨n, e, h1, h2, h3⟩ := step_stands (d := 1) (by norm_num) (step_stands (d := 2) (by norm_num)
    (step_stands (d := 4) (by norm_num) (step_stands (d := 8) (by norm_num) (step_stands (d := 16) (by norm_num)
    (step_stands (d := 32) (by norm_num) (step_stands (d := 64) (by norm_num) (step_stands (d := 128) (by norm_num) h0)))))))
  exact ⟨n, e, by omega, h2, h3.imp (by omega) id⟩

/-! ## The kernel's exponent -/

/-- The exponent as the kernel's word. -/
def exponentWord (a x : EReal) : BitVec 32 :=
  if Ideal.cmp .oeq a 0 = 1#1 then 0#32
  else if IntOp.andi (IntOp.cmpi .sgt (search x) 0#32) (IntOp.cmpi .slt (search x) 253#32) = 1#1 then search x - 126#32 else 0#32

theorem field_in_range : ∀ n : Fin 256, (IntOp.andi (IntOp.cmpi .sgt (BitVec.ofNat 32 n.val) 0#32) (IntOp.cmpi .slt (BitVec.ofNat 32 n.val) 253#32) = 1#1)
    ↔ (0 < n.val ∧ n.val < 253) := by decide +kernel

theorem shifted : ∀ n : Fin 256, 0 < n.val → n.val < 253 →
    BitVec.ofNat 32 n.val - 126#32 + 127#32 = BitVec.ofNat 32 (n.val + 1)
    ∧ 0#32 - (BitVec.ofNat 32 n.val - 126#32) + 127#32 = BitVec.ofNat 32 (253 - n.val) := by decide +kernel

theorem place_mid {n : ℕ} (h0 : 0 < n) (h1 : n < 255) : place n = (((2 : ℝ) ^ ((n : ℤ) - 127) : ℝ) : EReal) := by
  unfold place; rw [if_neg (by omega), if_neg (by omega)]

theorem place_mono {n k : ℕ} (h : n ≤ k) (hk : k < 256) : place n ≤ place k := by
  unfold place
  by_cases hn : n = 0
  · rw [if_pos hn]
    split_ifs
    · exact le_rfl
    · exact le_top
    · exact_mod_cast (by positivity : (0 : ℝ) ≤ (2 : ℝ) ^ ((k : ℤ) - 127))
  · rw [if_neg hn, if_neg (show k ≠ 0 by omega)]
    by_cases h2 : k = 255
    · rw [if_pos h2]; exact le_top
    · rw [if_neg h2, if_neg (show n ≠ 255 by omega)]
      exact EReal.coe_le_coe_iff.mpr (zpow_le_zpow_right₀ (by norm_num : (1 : ℝ) ≤ 2) (by omega))

theorem exponent_of_field {a x : EReal} (ha : a ≠ 0) {n : ℕ} (h0 : 0 < n) (h1 : n < 253) (hle : place n ≤ x) (hlt : x < place (n + 1)) :
    exponent a x = (n : ℤ) - 126 := by
  have hlo : (((2 : ℝ) ^ (-126 : ℤ) : ℝ) : EReal) ≤ x := by
    refine le_trans ?_ hle
    have := place_mono (n := 1) (k := n) h0 (by omega)
    rwa [place_mid (by norm_num) (by norm_num)] at this
  have hhi : x < (((2 : ℝ) ^ (126 : ℤ) : ℝ) : EReal) := by
    refine lt_of_lt_of_le hlt ?_
    have := place_mono (n := n + 1) (k := 253) (by omega) (by norm_num)
    rwa [place_mid (n := 253) (by norm_num) (by norm_num)] at this
  unfold exponent
  rw [if_pos ⟨ha, hlo, hhi⟩]
  rw [place_mid h0 (by omega)] at hle
  rw [place_mid (by omega) (by omega)] at hlt
  induction x with
  | bot => exact absurd hlo (by simp)
  | top => exact absurd hhi (by simp)
  | coe r =>
    rw [EReal.toReal_coe]
    have hle' : (2 : ℝ) ^ ((n : ℤ) - 127) ≤ r := by exact_mod_cast hle
    have hlt' : r < (2 : ℝ) ^ (((n + 1 : ℕ) : ℤ) - 127) := by exact_mod_cast hlt
    have hr : 0 < r := lt_of_lt_of_le (by positivity) hle'
    have l2 : 0 < Real.log 2 := Real.log_pos (by norm_num)
    have e1 := Real.log_le_log (by positivity) hle'
    have e2 := Real.log_lt_log hr hlt'
    rw [Real.log_zpow] at e1 e2
    have e : ⌊Real.log r / Real.log 2⌋ = (n : ℤ) - 127 := by
      rw [Int.floor_eq_iff, le_div_iff₀ l2, div_lt_iff₀ l2]
      refine ⟨e1, e2.trans_le (le_of_eq ?_)⟩
      push_cast; ring
    rw [e]; ring

theorem exponent_outside {a x : EReal} {n : ℕ} (h : n = 0 ∨ 253 ≤ n) (hn : n < 256) (hle : place n ≤ x) (hlt : n = 255 ∨ x < place (n + 1)) :
    exponent a x = 0 := by
  unfold exponent
  rw [if_neg]
  rintro ⟨-, hlo, hhi⟩
  rcases h with h | h
  · subst h
    rcases hlt with hlt | hlt
    · omega
    · rw [place_mid (n := 0 + 1) (by norm_num) (by norm_num)] at hlt
      exact absurd hlo (not_le.mpr (by simpa using hlt))
  · have := le_trans (place_mono h hn) hle
    rw [place_mid (n := 253) (by norm_num) (by norm_num)] at this
    exact absurd hhi (not_lt.mpr (by simpa using this))

/-- The kernel's two words: with the exponent added to the bias the scale, with its opposite the reciprocal. -/
theorem exponentWord_spec {a x : EReal} (hx : 0 ≤ x) :
    Ideal.ofBits .f32 (word (exponentWord a x + 127#32)) = (((2 : ℝ) ^ exponent a x : ℝ) : EReal)
    ∧ Ideal.ofBits .f32 (word (0#32 - exponentWord a x + 127#32)) = (((2 : ℝ) ^ (-exponent a x) : ℝ) : EReal) := by
  have one : Ideal.ofBits .f32 (word 127#32) = (((2 : ℝ) ^ (0 : ℤ) : ℝ) : EReal) := by
    rw [show (127#32) = BitVec.ofNat 32 127 from rfl, ofBits_word 127 (by norm_num), place_mid (by norm_num) (by norm_num)]; norm_num
  have zero : ∀ e : BitVec 32, e = 0#32 → exponent a x = 0 →
      Ideal.ofBits .f32 (word (e + 127#32)) = (((2 : ℝ) ^ exponent a x : ℝ) : EReal)
      ∧ Ideal.ofBits .f32 (word (0#32 - e + 127#32)) = (((2 : ℝ) ^ (-exponent a x) : ℝ) : EReal) := by
    rintro e rfl h
    rw [h, neg_zero, show (0#32 + 127#32) = 127#32 from rfl, show (0#32 - 0#32 + 127#32) = 127#32 from rfl]
    exact ⟨one, one⟩
  by_cases ha : a = 0
  · refine zero _ ?_ ?_
    · unfold exponentWord; rw [if_pos (by simp [Ideal.cmp, ha])]
    · unfold exponent; rw [if_neg (fun h => h.1 ha)]
  obtain ⟨n, e, hn, hle, hlt⟩ := search_spec hx
  by_cases hr : 0 < n ∧ n < 253
  · have ew : exponentWord a x = BitVec.ofNat 32 n - 126#32 := by
      unfold exponentWord
      rw [if_neg (by simp [Ideal.cmp, ha]), e, if_pos ((field_in_range ⟨n, hn⟩).mpr hr)]
    obtain ⟨s1, s2⟩ := shifted ⟨n, hn⟩ hr.1 hr.2
    rw [ew, exponent_of_field ha hr.1 hr.2 hle (hlt.resolve_left (by omega))]
    simp only at s1 s2
    rw [s1, s2, ofBits_word _ (by omega), ofBits_word _ (by omega), place_mid (by omega) (by omega), place_mid (by omega) (by omega)]
    constructor
    · rw [show ((n + 1 : ℕ) : ℤ) - 127 = (n : ℤ) - 126 by push_cast; ring]
    · rw [show ((253 - n : ℕ) : ℤ) - 127 = -((n : ℤ) - 126) by rw [Nat.cast_sub (by omega)]; push_cast; ring]
  · refine zero _ ?_ (exponent_outside (by omega) hn hle hlt)
    unfold exponentWord
    rw [if_neg (by simp [Ideal.cmp, ha]), e, if_neg (fun h => hr ((field_in_range ⟨n, hn⟩).mp h))]

/-! ## The reference's exponent -/

/-- The exponent as the reference's number. -/
def exponentReal (a x : EReal) : EReal :=
  if Ideal.cmp .oeq a (Ideal.ofBits .f32 0x00000000#32) = 1#1 then Ideal.ofBits .f32 0x00000000#32
  else if IntOp.andi (Ideal.cmp .oge x (Ideal.ofBits .f32 0x00800000#32)) (Ideal.cmp .olt x (Ideal.ofBits .f32 0x7E800000#32)) = 1#1
    then Ideal.liftRound Int.floor (Ideal.div (Ideal.log x) (Ideal.log (Ideal.ofBits .f32 0x40000000#32))) + Ideal.ofBits .f32 0x3F800000#32
    else Ideal.ofBits .f32 0x00000000#32

theorem exponentReal_eq (a x : EReal) : exponentReal a x = ((exponent a x : ℝ) : EReal) := by
  have hlo : Ideal.ofBits .f32 0x00800000#32 = (((2 : ℝ) ^ (-126 : ℤ) : ℝ) : EReal) := by
    rw [show 0x00800000#32 = word (BitVec.ofNat 32 1) from rfl, ofBits_word 1 (by norm_num), place_mid (by norm_num) (by norm_num)]; norm_num
  have hhi : Ideal.ofBits .f32 0x7E800000#32 = (((2 : ℝ) ^ (126 : ℤ) : ℝ) : EReal) := by
    rw [show 0x7E800000#32 = word (BitVec.ofNat 32 253) from rfl, ofBits_word 253 (by norm_num), place_mid (by norm_num) (by norm_num)]; norm_num
  have h1 : Ideal.ofBits .f32 0x3F800000#32 = ((1 : ℝ) : EReal) := by
    rw [show 0x3F800000#32 = word (BitVec.ofNat 32 127) from rfl, ofBits_word 127 (by norm_num), place_mid (by norm_num) (by norm_num)]; norm_num
  have h2 : Ideal.ofBits .f32 0x40000000#32 = ((2 : ℝ) : EReal) := by
    rw [show 0x40000000#32 = word (BitVec.ofNat 32 128) from rfl, ofBits_word 128 (by norm_num), place_mid (by norm_num) (by norm_num)]; norm_num
  unfold exponentReal exponent
  rw [hlo, hhi, h1, h2, Ideal.ofBits_zero_f32]
  by_cases ha : a = 0
  · rw [if_pos (by simp [Ideal.cmp, ha]), if_neg (fun h => h.1 ha)]; simp
  · rw [if_neg (by simp [Ideal.cmp, ha])]
    by_cases hr : (((2 : ℝ) ^ (-126 : ℤ) : ℝ) : EReal) ≤ x ∧ x < (((2 : ℝ) ^ (126 : ℤ) : ℝ) : EReal)
    · rw [if_pos (by simp only [Ideal.cmp, IntOp.andi, hr.1, hr.2, decide_true]; rfl), if_pos ⟨ha, hr⟩]
      induction x with
      | bot => exact absurd hr.1 (by simp)
      | top => exact absurd hr.2 (by simp)
      | coe r =>
        have hpos : 0 < r := lt_of_lt_of_le (by positivity) (show (2 : ℝ) ^ (-126 : ℤ) ≤ r by exact_mod_cast hr.1)
        rw [Ideal.log_coe, Ideal.log_coe, if_neg (not_le.mpr hpos), if_neg (by norm_num), Ideal.div_coe (Real.log_pos (by norm_num)).ne',
          ← EReal.coe_mul, Ideal.liftRound_coe, EReal.toReal_coe, ← EReal.coe_add]
        rw [mul_one_div]
        push_cast; rfl
    · rw [if_neg, if_neg (fun h => hr h.2)]
      · simp
      · intro h
        apply hr
        by_cases c1 : (((2 : ℝ) ^ (-126 : ℤ) : ℝ) : EReal) ≤ x <;> by_cases c2 : x < (((2 : ℝ) ^ (126 : ℤ) : ℝ) : EReal)
        · exact ⟨c1, c2⟩
        all_goals
          exfalso
          simp only [Ideal.cmp, IntOp.andi, c1, c2, decide_true, decide_false] at h
          revert h; decide

/-- Two to the reference's exponent, and to its opposite. -/
theorem exp2_exponentReal (a x : EReal) : Ideal.exp2 (exponentReal a x) = (((2 : ℝ) ^ exponent a x : ℝ) : EReal)
    ∧ Ideal.exp2 (Ideal.ofBits .f32 0x00000000#32 - exponentReal a x) = (((2 : ℝ) ^ (-exponent a x) : ℝ) : EReal) := by
  rw [exponentReal_eq, Ideal.ofBits_zero_f32]
  constructor
  · rw [Ideal.exp2_coe]; exact congrArg _ (Real.rpow_intCast 2 _)
  · rw [show (0 : EReal) - ((exponent a x : ℝ) : EReal) = (((-exponent a x : ℤ) : ℝ) : EReal) by push_cast; simp, Ideal.exp2_coe]
    exact congrArg _ (Real.rpow_intCast 2 _)

end Cert.Spec

end
-- ==== Proof.Maximum.lean ====
/-
  Largest values, by what bounds them: a number is at least a maximum exactly if it is at least every entry. Said so, a
  maximum taken block by block, after a change of shape or all at once is the same.
-/
module

public import proofs.«01_k».proof.Proof.Spec
public import Idealize.ShloMosaic.PureOps.Ideal.Laws
public import Idealize.ShloMosaic.PureOps.Reduce

@[expose] public section

noncomputable section

namespace Cert.Spec

open Idealize.ShloMosaic

/-- A bound of the largest absolute value is a bound of every one. -/
theorem absMax_le {ι : Type} (f : ι → EReal) (c : EReal) : absMax f ≤ c ↔ ∀ i, max (f i) (-(f i)) ≤ c := iSup_le_iff

/-- A largest absolute value is not negative. -/
theorem absMax_nonneg {ι : Type} [Nonempty ι] (f : ι → EReal) : 0 ≤ absMax f := by
  obtain ⟨i⟩ := ‹Nonempty ι›
  refine le_trans ?_ (le_iSup (fun i => max (f i) (-(f i))) i)
  rcases le_total 0 (f i) with h | h
  · exact le_max_of_le_left h
  · exact le_max_of_le_right (EReal.neg_nonneg.mpr h)

/-- A property of all entries does not see a change of shape. -/
theorem forall_shapeCast {s t : Shape} {α : Type} (x : s.Idx → α) (h : s.ShapeCasts t) (P : α → Prop) :
    (∀ j, P (shapeCast t x h j)) ↔ ∀ i, P (x i) :=
  ⟨fun H i => by have := H ((Shape.reshapeEquiv h).symm i); unfold shapeCast at this; rwa [Equiv.apply_symm_apply] at this, fun H j => H _⟩

variable {s t : Shape} {axes : List (Fin s.rank)} {φ : FTy}

/-- The bounds of a maximum over some axes, at one of the remaining indices; -/
theorem reduce_le (src : FVec Ideal s φ) (acc : BitVec φ.bits) (h : s.Reduces axes t) (hφ : FKind.Formats φ)
    (hacc : acc = FKind.maximumf.neutral φ hφ) (hb : Ideal.ofBits φ acc = ⊥) (j : t.Idx) (c : EReal) :
    multiReduction .maximumf axes t src acc h hφ hacc j ≤ c ↔ ∀ i, h.drop i = j → src i ≤ c := by
  rw [multiReduction_maximumf_eq_fold]
  show Finset.fold max (Ideal.ofBits φ acc) src _ ≤ c ↔ _
  rw [Finset.fold_max_le, hb]
  simp

/-- at all of them; -/
theorem reduce_le_all (src : FVec Ideal s φ) (acc : BitVec φ.bits) (h : s.Reduces axes t) (hφ : FKind.Formats φ)
    (hacc : acc = FKind.maximumf.neutral φ hφ) (hb : Ideal.ofBits φ acc = ⊥) (c : EReal) :
    (∀ j, multiReduction .maximumf axes t src acc h hφ hacc j ≤ c) ↔ ∀ i, src i ≤ c := by
  simp only [reduce_le src acc h hφ hacc hb]
  exact ⟨fun H i => H _ i rfl, fun H _ i _ => H i⟩

/-- and of a maximum over all axes. -/
theorem reduce_le_total (src : FVec Ideal s φ) (acc : BitVec φ.bits) (h : s.Reduces axes t) (hφ : FKind.Formats φ)
    (hacc : acc = FKind.maximumf.neutral φ hφ) (hb : Ideal.ofBits φ acc = ⊥) (ht : ∀ b, t.size b = 1) (j : t.Idx) (c : EReal) :
    multiReduction .maximumf axes t src acc h hφ hacc j ≤ c ↔ ∀ i, src i ≤ c := by
  rw [reduce_le src acc h hφ hacc hb]
  exact ⟨fun H i => H i (funext fun b => Fin.ext (by
    have := (h.drop i b).isLt; have := (j b).isLt; have := ht b; omega)), fun H i _ => H i⟩

theorem ofBits_bot_f32 : Ideal.ofBits .f32 0xFF800000#32 = ⊥ := by simp [Ideal.ofBits, Ideal.ieee]
theorem ofBits_bot_bf16 : Ideal.ofBits .bf16 0xFF80#16 = ⊥ := by simp [Ideal.ofBits, Ideal.ieee]

/-- The one entry read out of a vector reshaped is an entry of the vector. -/
theorem extract_shapeCast {s t : Shape} {α : Type} (x : s.Idx → α) (h : s.ShapeCasts t) (pos : Fin t.rank → Nat) (hp : ∀ a, pos a < t.size a) :
    ∃ j, extractAt pos (shapeCast t x h) hp = x j := ⟨_, rfl⟩

/-- A word without the sign bit and not all ones in the exponent is not negative. -/
theorem ieee_nonneg (b : BitVec 32) (h1 : (b.extractLsb' (8 + 23) 1 == 1#1) = false) (h2 : (b.extractLsb' 23 8).toNat ≠ 255) :
    0 ≤ Ideal.ieee 8 23 b := by
  unfold Ideal.ieee
  have h2' : ¬ (b.extractLsb' 23 8).toNat = 2 ^ 8 - 1 := by simpa using h2
  simp only [h1, if_neg h2', Bool.false_eq_true, if_false]
  split_ifs <;> refine EReal.coe_nonneg.mpr (mul_nonneg (by positivity) (zpow_nonneg (by norm_num) _))

/-- The two reciprocals are not negative. -/
theorem dRecip_nonneg : 0 ≤ dRecip := ieee_nonneg 0x37924925#32 rfl (by decide)
theorem wRecip_nonneg : 0 ≤ wRecip := ieee_nonneg 0x3B124925#32 rfl (by decide)

end Cert.Spec

end
-- ==== Proof.KernelIdeal.ScalesValue.lean ====
/-
  What the first call's stores hold, over the extended reals, as the specification writes it: the two maxima, the two
  scales, the reciprocal of the gradient's and the weight's codes.
-/
module

public import proofs.«01_k».proof.Proof.KernelIdeal.ScalesData
public import proofs.«01_k».proof.Proof.Exponent
public import proofs.«01_k».proof.Proof.Maximum
public import Idealize.ShloMosaic.Lib.ValueIdx
public import Idealize.ShloMosaic.PureOps.Ideal

@[expose] public section

set_option maxRecDepth 16384

noncomputable section

namespace Cert.KernelIdeal.Scales

open Cert.KernelIdeal Cert.KernelIdeal.Gen Idealize.ShloMosaic.TcCoe
open Idealize.ShloMosaic hiding ix1 ix2 ix3 ix4
open Idealize.ShloMosaic.ValueIdx Cert.Spec

instance : Nonempty S2432x1024.Idx := ⟨ix2 0 0⟩
instance : Nonempty S6x3072x1024.Idx := ⟨ix3 0 0 0⟩

/-! ## The weight -/

/-- The weight's largest absolute value, at every lane. -/
theorem pay8_apply (w : Vec Ideal S2432x1024 .f32) (i : S8x128.Idx) : k0_pay8 w i = absMax w := by
  unfold k0_pay8
  rw [broadcast_apply]
  obtain ⟨j, hj⟩ := extract_shapeCast (multiReduction (F := Ideal) (φ := .f32) .maximumf [1, 2] S1
    (shapeCast S1x2432x1024 (absf (F := Ideal) (φ := .f32) w) shapeCasts_S2432x1024_S1x2432x1024)
      0xFF800000#32 reduces_S1x2432x1024_S1 (.inl rfl) rfl) shapeCasts_S1_S1x1x1 ![0, 0, 0] inpos_S1x1x1_p0_0_0
  refine hj.trans ?_
  refine eq_of_forall_ge_iff fun c => ?_
  refine (reduce_le_total (φ := .f32) _ _ _ _ _ ofBits_bot_f32 (fun b => by match b with | ⟨0, _⟩ => rfl) j c).trans ?_
  rw [absMax_le]
  exact forall_shapeCast (absf (F := Ideal) (φ := .f32) w) _ (· ≤ c)

theorem pay9_apply (w : Vec Ideal S2432x1024 .f32) (i : S8x128.Idx) : k0_pay9 w i = absMax w * wRecip := by
  unfold k0_pay9
  rw [mulf_apply, broadcast_apply, pay8_apply, Ideal.ofBits_def]

/-! ## The search, lane by lane -/

/-- One step of the search over a vector, as the body writes it, -/
def vstep (x : FVec Ideal S8x128 .f32) (b : BitVec 32) (f : IVec S8x128 32) : IVec S8x128 32 :=
  select (cmpf .ole (bitcastToFloat .f32 (shli (addi f (broadcast S8x128 b)) (broadcast S8x128 23#32))) x) (addi f (broadcast S8x128 b)) f
/-- and the exponent from the field found. -/
def vpick (a : FVec Ideal S8x128 .f32) (f : IVec S8x128 32) : IVec S8x128 32 :=
  select (cmpf .oeq a (broadcast S8x128 (Scalar.ofBits (F := Ideal) .f32 0x00000000#32))) (broadcast S8x128 0#32)
    (select (andi (cmpi .sgt f (broadcast S8x128 0#32)) (cmpi .slt f (broadcast S8x128 253#32))) (subi f (broadcast S8x128 126#32)) (broadcast S8x128 0#32))

theorem vstep_apply (x : FVec Ideal S8x128 .f32) (b : BitVec 32) (f : IVec S8x128 32) (i : S8x128.Idx) :
    vstep x b f i = step (x i) b (f i) := by
  unfold step
  exact rfl

theorem pay10_eq (w : Vec Ideal S2432x1024 .f32) :
    k0_pay10 w = vstep (k0_pay9 w) 16#32 (vstep (k0_pay9 w) 32#32 (vstep (k0_pay9 w) 64#32 (vstep (k0_pay9 w) 128#32 (broadcast S8x128 0#32)))) := rfl
theorem pay12_eq (a x : FVec Ideal S8x128 .f32) (f : IVec S8x128 32) :
    k0_pay12 (F := Ideal) a x f (addi f (broadcast S8x128 8#32)) = vpick a (vstep x 1#32 (vstep x 2#32 (vstep x 4#32 (vstep x 8#32 f)))) := by
  delta k0_pay12 vpick vstep
  exact rfl
theorem pay16_eq (v : Vec Ideal S16x1024 .f32) :
    k0_pay16 v = vstep (k0_pay15 v) 8#32 (vstep (k0_pay15 v) 16#32 (vstep (k0_pay15 v) 32#32 (vstep (k0_pay15 v) 64#32 (vstep (k0_pay15 v) 128#32 (broadcast S8x128 0#32))))) := by
  delta k0_pay16 vstep
  exact rfl
theorem pay17_eq (a x : FVec Ideal S8x128 .f32) (f : IVec S8x128 32) :
    k0_pay17 (F := Ideal) a x f 4#32 = vpick a (vstep x 1#32 (vstep x 2#32 (vstep x 4#32 f))) := by
  delta k0_pay17 vpick vstep
  exact rfl

/-- The picked exponent of a whole search is the specification's word. -/
theorem vpick_apply (a x : FVec Ideal S8x128 .f32) (i : S8x128.Idx) :
    vpick a (vstep x 1#32 (vstep x 2#32 (vstep x 4#32 (vstep x 8#32 (vstep x 16#32 (vstep x 32#32 (vstep x 64#32 (vstep x 128#32
      (broadcast S8x128 0#32))))))))) i = exponentWord (a i) (x i) := by
  generalize hf : vstep x 1#32 _ = f
  have e : f i = search (x i) := by
    rw [← hf]
    simp only [vstep_apply]
    rfl
  unfold exponentWord
  rw [← e, ← Ideal.ofBits_zero_f32]
  rfl

/-- The weight's exponent, at every lane; -/
theorem wExp_apply (w : Vec Ideal S2432x1024 .f32) (i : S8x128.Idx) : wExp w i = exponentWord (absMax w) (absMax w * wRecip) := by
  have e : k0_pay11 w = addi (k0_pay10 w) (broadcast S8x128 8#32) := rfl
  unfold wExp
  rw [e, pay12_eq, pay10_eq, vpick_apply, pay8_apply, pay9_apply]

theorem wExp_nonneg (w : Vec Ideal S2432x1024 .f32) : 0 ≤ absMax w * wRecip := mul_nonneg (absMax_nonneg w) wRecip_nonneg

/-- its scale; -/
theorem wScale_eq (w : Vec Ideal S2432x1024 .f32) : wScale w = scale wRecip (absMax w) := by
  obtain ⟨i, hi⟩ : ∃ i, wScale w = Ideal.ofBits .f32 (Spec.word (wExp w i + 127#32)) := by
    delta wScale wExp k0_pay3 k0_pay13
    exact ⟨_, rfl⟩
  rw [hi, wExp_apply]
  exact (exponentWord_spec (a := absMax w) (wExp_nonneg w)).1

/-- One lane spread over the weight's shape is a lane everywhere. -/
theorem splat_apply (v : FVec Ideal S8x128 .f32) (j : S2432x1024.Idx) : ∃ i, broadcastTo S2432x1024
    (extractStridedSlice S1x1 ![0, 0] v slices_S8x128_o0_0_S1x1) broadcasts_S1x1_S2432x1024 j = v i := ⟨_, rfl⟩

/-- its codes. -/
theorem wCodes_apply (w : Vec Ideal S2432x1024 .f32) (j : S2432x1024.Idx) :
    wCodes w j = code wBot wTop (inverse wRecip (absMax w)) (w j) := by
  unfold wCodes k0_pay2
  simp only [truncf_apply, minimumf_apply, maximumf_apply, mulf_apply, broadcast_apply, Ideal.ofBits_def]
  obtain ⟨i, hi⟩ := splat_apply (bitcastToFloat (F := Ideal) .f32
    (shli (addi (subi (broadcast S8x128 0#32) (wExp w)) (broadcast S8x128 127#32)) (broadcast S8x128 23#32))) j
  rw [hi]
  have e : bitcastToFloat (F := Ideal) .f32 (shli (addi (subi (broadcast S8x128 0#32) (wExp w)) (broadcast S8x128 127#32)) (broadcast S8x128 23#32)) i
    = Ideal.ofBits .f32 (Spec.word (0#32 - wExp w i + 127#32)) := rfl
  rw [e, wExp_apply]
  unfold inverse
  rw [(exponentWord_spec (a := absMax w) (wExp_nonneg w)).2]
  rfl

/-! ## The gradient's running maximum -/

/-- The bounds of a block's column maxima, -/
theorem pay1_le (x : Vec Ideal S2048x1024 .bf16) (c : EReal) : (∀ j, k0_pay1 x j ≤ c) ↔ ∀ i, max (x i) (-(x i)) ≤ c := by
  unfold k0_pay1
  simp only [extf_apply]
  refine (reduce_le_all (φ := .bf16) _ _ _ _ _ ofBits_bot_bf16 c).trans ?_
  refine (forall_shapeCast (absf (F := Ideal) (φ := .bf16) (shapeCast S2048x1024 x shapeCasts_S2048x1024_S2048x1024)) _ (· ≤ c)).trans ?_
  exact forall_shapeCast x _ (fun v => max v (-v) ≤ c)
/-- of the running maximum after the first block, -/
theorem start_le (x : Vec Ideal S2048x1024 .bf16) (c : EReal) : (∀ j, start x j ≤ c) ↔ ∀ i, max (x i) (-(x i)) ≤ c := by
  rw [← pay1_le]
  exact forall_shapeCast (k0_pay1 x) _ (· ≤ c)

/-- after one block more, -/
theorem next_le (x : Vec Ideal S2048x1024 .bf16) (a : Vec Ideal S16x1024 .f32) (c : EReal) :
    (∀ j, next x a j ≤ c) ↔ (∀ j, a j ≤ c) ∧ ∀ i, max (x i) (-(x i)) ≤ c := by
  refine (forall_shapeCast (maximumf a (k0_pay1 x)) _ (· ≤ c)).trans ?_
  rw [← pay1_le, ← forall_and]
  exact forall_congr' fun j => max_le_iff

variable (V : (c : Dev nD) → (b : Ref sig .tc) → Buf (Elt Ideal) ((c : Thread nD τ).loc b))

/-- after point `n`, -/
theorem acc_le (c : Dev nD) (b : EReal) : ∀ (n : ℕ) (h : n < cfg0.N), (∀ j, acc V c n h j ≤ b)
    ↔ ∀ (t : ℕ) (ht : t ≤ n) (i : S2048x1024.Idx), max (dBlk V c ⟨t, by omega⟩ i) (-(dBlk V c ⟨t, by omega⟩ i)) ≤ b
  | 0, h => by
    refine (start_le _ b).trans ⟨fun H t ht i => ?_, fun H i => H 0 le_rfl i⟩
    obtain rfl : t = 0 := by omega
    exact H i
  | n + 1, h => by
    refine (next_le _ _ b).trans ?_
    rw [acc_le c b n (by omega)]
    refine ⟨fun H t ht i => ?_, fun H => ⟨fun t ht i => H t (by omega) i, fun i => H (n + 1) le_rfl i⟩⟩
    rcases Nat.lt_or_ge t (n + 1) with hlt | hge
    · exact H.1 t (by omega) i
    · obtain rfl : t = n + 1 := by omega
      exact H.2 i

/-- Block `t` is 2048 rows of the gradient. -/
theorem index0 : ∀ t : Fin cfg0.N, win0_0.index t 0 = t.val ∧ win0_0.index t 1 = 0 :=
  (by decide +kernel : ∀ t : Fin grid0.N, win0_0.index t 0 = t.val ∧ win0_0.index t 1 = 0)

theorem dBlk_apply {c : Dev nD} {x : Vec Ideal S18432x1024 .bf16} (hx : V c main_v0 = x) (t : Fin cfg0.N) (i : S2048x1024.Idx) (q : S18432x1024.Idx)
    (h0 : (q 0).val = t.val * 2048 + (i 0).val) (h1 : (q 1).val = (i 1).val) : dBlk V c t i = x q := by
  have e := index0 t
  subst hx
  refine congrArg (V c main_v0 : Vec Ideal S18432x1024 .bf16) (funext fun a => Fin.ext ?_)
  match a with
  | ⟨0, _⟩ => show win0_0.index t 0 * 2048 + 1 * (i 0).val = (q 0).val; rw [e.1]; omega
  | ⟨1, _⟩ => show win0_0.index t 1 * 1024 + 1 * (i 1).val = (q 1).val; rw [e.2]; omega

/-- and after all blocks. -/
theorem total_le {c : Dev nD} {x : Vec Ideal S18432x1024 .bf16} (hx : V c main_v0 = x) (b : EReal) :
    (∀ j, total V c j ≤ b) ↔ ∀ i, max (x i) (-(x i)) ≤ b := by
  unfold total
  rw [acc_le]
  constructor
  · intro H i
    have h0 : (i 0).val < 18432 := (i 0).isLt
    have := H ((i 0).val / 2048) (by omega) (ix2 ⟨(i 0).val % 2048, by omega⟩ (i 1))
    rw [dBlk_apply V hx _ _ i (by show (i 0).val = (i 0).val / 2048 * 2048 + (i 0).val % 2048; omega) rfl] at this
    exact this
  · intro H t ht i
    have h0 : (i 0).val < 2048 := (i 0).isLt
    have h := H (ix2 ⟨t * 2048 + (i 0).val, by omega⟩ (i 1))
    rw [← dBlk_apply V hx ⟨t, by rw [show cfg0.N = 9 from N_0]; omega⟩ i (ix2 ⟨t * 2048 + (i 0).val, by omega⟩ (i 1)) rfl rfl] at h
    exact h

/-- The window of the weight is all of it. -/
theorem wBlk_eq (c : Dev nD) : wBlk V c = (V c main_arg1 : Vec Ideal S2432x1024 .f32) := by
  funext i
  refine congrArg (V c main_arg1 : Vec Ideal S2432x1024 .f32) (funext fun a => Fin.ext ?_)
  match a with
  | ⟨0, _⟩ => show 0 * 2432 + 1 * (i 0).val = (i 0).val; omega
  | ⟨1, _⟩ => show 0 * 1024 + 1 * (i 1).val = (i 1).val; omega

section Total
variable {V} {c : Dev nD} {dy : Vec Ideal S6x3072x1024 .bf16}
  (hV : V c main_v0 = shapeCast S18432x1024 dy shapeCasts_S6x3072x1024_S18432x1024)
include hV

/-- The gradient's largest absolute value, at every lane, -/
theorem pay14_apply (i : S8x128.Idx) : k0_pay14 (total V c) i = absMax dy := by
  unfold k0_pay14
  rw [broadcast_apply]
  obtain ⟨j, hj⟩ := extract_shapeCast (multiReduction (F := Ideal) (φ := .f32) .maximumf [1, 2] S1
    (shapeCast S1x16x1024 (total V c) shapeCasts_S16x1024_S1x16x1024)
      0xFF800000#32 reduces_S1x16x1024_S1 (.inl rfl) rfl) shapeCasts_S1_S1x1x1 ![0, 0, 0] inpos_S1x1x1_p0_0_0
  refine hj.trans ?_
  refine eq_of_forall_ge_iff fun b => ?_
  refine (reduce_le_total (φ := .f32) _ _ _ _ _ ofBits_bot_f32 (fun b => by match b with | ⟨0, _⟩ => rfl) j b).trans ?_
  refine (forall_shapeCast (total V c) _ (· ≤ b)).trans ?_
  rw [total_le V hV b, absMax_le]
  exact forall_shapeCast dy _ (fun v => max v (-v) ≤ b)

theorem pay15_apply (i : S8x128.Idx) : k0_pay15 (total V c) i = absMax dy * dRecip := by
  unfold k0_pay15
  rw [mulf_apply, broadcast_apply, pay14_apply hV, Ideal.ofBits_def]

/-- its exponent, -/
theorem dExp_apply (i : S8x128.Idx) : k0_pay17 (k0_pay14 (total V c)) (k0_pay15 (total V c)) (k0_pay16 (total V c)) 4#32 i
    = exponentWord (absMax dy) (absMax dy * dRecip) := by
  rw [pay17_eq, pay16_eq, vpick_apply, pay14_apply hV, pay15_apply hV]

omit hV in
theorem dExp_nonneg (dy : Vec Ideal S6x3072x1024 .bf16) : 0 ≤ absMax dy * dRecip := mul_nonneg (absMax_nonneg dy) dRecip_nonneg

omit hV in
theorem dScale_word (a : Vec Ideal S16x1024 .f32) : ∃ i, dScale a
    = Ideal.ofBits .f32 (Spec.word (k0_pay17 (k0_pay14 a) (k0_pay15 a) (k0_pay16 a) 4#32 i + 127#32)) := by
  delta dScale k0_pay5 k0_pay18
  exact ⟨_, rfl⟩
omit hV in
theorem dInv_word (a : Vec Ideal S16x1024 .f32) : ∃ i, dInv a
    = Ideal.ofBits .f32 (Spec.word (0#32 - k0_pay17 (k0_pay14 a) (k0_pay15 a) (k0_pay16 a) 4#32 i + 127#32)) := by
  delta dInv k0_pay6 k0_pay19 k0_pay20
  exact ⟨_, rfl⟩

/-- its scale -/
theorem dScale_eq : dScale (total V c) = scale dRecip (absMax dy) := by
  obtain ⟨i, hi⟩ := dScale_word (total V c)
  rw [hi, dExp_apply hV]
  exact (exponentWord_spec (a := absMax dy) (dExp_nonneg dy)).1

/-- and the scale's reciprocal. -/
theorem dInv_eq : dInv (total V c) = inverse dRecip (absMax dy) := by
  obtain ⟨i, hi⟩ := dInv_word (total V c)
  rw [hi, dExp_apply hV]
  exact (exponentWord_spec (a := absMax dy) (dExp_nonneg dy)).2

end Total

end Cert.KernelIdeal.Scales

end
-- ==== Proof.Results.lean ====
/-
  The five results, entry by entry, from the gradient and the weight: what the kernel and the reference are both shown to
  leave.
-/
module

public import proofs.«01_k».proof.Proof.Spec
public import Idealize.ShloMosaic.Lib.ValueIdx

@[expose] public section

noncomputable section

namespace Cert.Spec

open Idealize.ShloMosaic
open Idealize.ShloMosaic.ValueIdx

/-- The gradient's shape, the weight's, the product's and a scalar's. -/
abbrev SD : Shape := ⟨3, ![6, 3072, 1024]⟩
abbrev SW : Shape := ⟨2, ![2432, 1024]⟩
abbrev SP : Shape := ⟨3, ![6, 3072, 2432]⟩
abbrev S0 : Shape := ⟨0, ![]⟩

variable (dy : SD.Idx → EReal) (w : SW.Idx → EReal)

/-- The gradient's scale; -/
def dScale : S0.Idx → EReal := fun _ => scale dRecip (absMax dy)
/-- the weight's; -/
def wScale : S0.Idx → EReal := fun _ => scale wRecip (absMax w)
/-- the gradient's codes; -/
def dCodes : SD.Idx → EReal := fun j => code dBot dTop (inverse dRecip (absMax dy)) (dy j)
/-- the weight's; -/
def wCodes : SW.Idx → EReal := fun j => code wBot wTop (inverse wRecip (absMax w)) (w j)
/-- the product: row (g, r) of the gradient's codes with each row of the weight's. -/
def entry (g : Fin 6) (r : Fin 3072) (n : Fin 2432) : EReal :=
  product (inverse dRecip (absMax dy)) (scale dRecip (absMax dy)) (scale wRecip (absMax w)) (fun k => dy (ix3 g r k)) (fun k => wCodes w (ix2 n k))
def prod : SP.Idx → EReal := fun j => entry dy w (j 0) (j 1) (j 2)

end Cert.Spec

end
-- ==== Proof.KernelIdeal.Value.lean ====
/-
  What the kernel's five result arrays hold after the run, entry by entry (extended reals).

  Point `t` of the second call's 36 works on batch entry `t / 6` and on rows `512 (t mod 6) …` of it; its two blocks are the
  codes of those rows and their products with the codes of all weight rows.
-/
module

public import proofs.«01_k».proof.Proof.KernelIdeal.Block
public import proofs.«01_k».proof.Proof.KernelIdeal.Run
public import proofs.«01_k».proof.Proof.KernelIdeal.ScalesValue
public import proofs.«01_k».proof.Proof.Results

@[expose] public section

noncomputable section

namespace Cert.KernelIdeal.Result

open Idealize.ShloMosaic hiding ix1 ix2 ix3 ix4 eq_ix1 eq_ix2 eq_ix3 eq_ix4
open Cert.KernelIdeal Cert.KernelIdeal.Gen Idealize.ShloMosaic.TcCoe Idealize.SL.Sem
open Idealize.ShloMosaic.ValueIdx Cert.KernelIdeal.Whole
open Idealize.ShloMosaic.Pipeline (Dat)

/-! ## Which entries of the arrays a point's blocks are -/

/-- The windows' block indices at point `t`. -/
theorem index1 : ∀ t : Fin cfg1.N, win1_1.index t 0 = t.val / 6 ∧ win1_1.index t 1 = t.val % 6 ∧ win1_1.index t 2 = 0 :=
  (by decide +kernel : ∀ t : Fin grid1.N, win1_1.index t 0 = t.val / 6 ∧ win1_1.index t 1 = t.val % 6 ∧ win1_1.index t 2 = 0)
theorem index3 : ∀ t : Fin cfg1.N, win1_3.index t 0 = t.val / 6 ∧ win1_3.index t 1 = t.val % 6 ∧ win1_3.index t 2 = 0 ∧ win1_3.index t 3 = 0 :=
  (by decide +kernel : ∀ t : Fin grid1.N, win1_3.index t 0 = t.val / 6 ∧ win1_3.index t 1 = t.val % 6 ∧ win1_3.index t 2 = 0 ∧ win1_3.index t 3 = 0)
theorem index4 : ∀ t : Fin cfg1.N, win1_4.index t 0 = t.val / 6 ∧ win1_4.index t 1 = t.val % 6 ∧ win1_4.index t 2 = 0 :=
  (by decide +kernel : ∀ t : Fin grid1.N, win1_4.index t 0 = t.val / 6 ∧ win1_4.index t 1 = t.val % 6 ∧ win1_4.index t 2 = 0)

theorem lt36 (t : Fin cfg1.N) : t.val < 36 := lt_of_lt_of_eq t.isLt N_1

/-- The batch entry point `t` works on, and row `r` of its 512 rows as a row of the array. -/
def batch (t : Fin cfg1.N) : Fin 6 := ⟨t.val / 6, by have := lt36 t; omega⟩
def row (t : Fin cfg1.N) (r : Fin 512) : Fin 3072 := ⟨t.val % 6 * 512 + r.val, by have := r.isLt; omega⟩
def group (t : Fin cfg1.N) (a : Fin 64) : Fin 384 := ⟨t.val % 6 * 64 + a.val, by have := a.isLt; omega⟩

section Blocks
variable {F : FTy → Type} [FloatOps F]

/-- The scales' block is the scales, at every point; -/
theorem read0 (A : Vec F S3 .f32) (t : Fin cfg1.N) (k : Fin 3) :
    ((cfg1.win 0).blk t).view.read (Elt F) A (ix1 k) = A (ix1 k) := by
  refine congrArg A (funext fun a => Fin.ext ?_)
  match a with
  | ⟨0, _⟩ => show 0 * 3 + 1 * k.val = k.val; omega
/-- the gradient's block is 512 rows of one batch entry; -/
theorem read1 (A : Vec F S6x3072x1024 .bf16) (t : Fin cfg1.N) (r : Fin 512) (k : Fin 1024) :
    ((cfg1.win 1).blk t).view.read (Elt F) A (ix3 0 r k) = A (ix3 (batch t) (row t r) k) := by
  have e := index1 t
  refine congrArg A (funext fun a => Fin.ext ?_)
  match a with
  | ⟨0, _⟩ => show win1_1.index t 0 * 1 + 1 * 0 = t.val / 6; rw [e.1]; omega
  | ⟨1, _⟩ => show win1_1.index t 1 * 512 + 1 * r.val = t.val % 6 * 512 + r.val; rw [e.2.1]; omega
  | ⟨2, _⟩ => show win1_1.index t 2 * 1024 + 1 * k.val = k.val; rw [e.2.2]; omega
/-- the weights' block is all of them. -/
theorem read2 (A : Vec F S2432x1024 .fp8e4m3) (t : Fin cfg1.N) (n : Fin 2432) (k : Fin 1024) :
    ((cfg1.win 2).blk t).view.read (Elt F) A (ix2 n k) = A (ix2 n k) := by
  refine congrArg A (funext fun a => Fin.ext ?_)
  match a with
  | ⟨0, _⟩ => show 0 * 2432 + 1 * n.val = n.val; omega
  | ⟨1, _⟩ => show 0 * 1024 + 1 * k.val = k.val; omega
/-- A block of the product array: 64 groups of 8 rows of one batch entry; -/
theorem read3 (A : Vec F S6x384x8x2432 .bf16) (t : Fin cfg1.N) (a : Fin 64) (b : Fin 8) (n : Fin 2432) :
    ((cfg1.win 3).blk t).view.read (Elt F) A (ix4 0 a b n) = A (ix4 (batch t) (group t a) b n) := by
  have e := index3 t
  refine congrArg A (funext fun d => Fin.ext ?_)
  match d with
  | ⟨0, _⟩ => show win1_3.index t 0 * 1 + 1 * 0 = t.val / 6; rw [e.1]; omega
  | ⟨1, _⟩ => show win1_3.index t 1 * 64 + 1 * a.val = t.val % 6 * 64 + a.val; rw [e.2.1]; omega
  | ⟨2, _⟩ => show win1_3.index t 2 * 8 + 1 * b.val = b.val; rw [e.2.2.1]; omega
  | ⟨3, _⟩ => show win1_3.index t 3 * 2432 + 1 * n.val = n.val; rw [e.2.2.2]; omega
/-- a block of the codes' array: 512 rows of one batch entry. -/
theorem read4 (A : Vec F S6x3072x1024 .fp8e5m2) (t : Fin cfg1.N) (r : Fin 512) (k : Fin 1024) :
    ((cfg1.win 4).blk t).view.read (Elt F) A (ix3 0 r k) = A (ix3 (batch t) (row t r) k) := by
  have e := index4 t
  refine congrArg A (funext fun a => Fin.ext ?_)
  match a with
  | ⟨0, _⟩ => show win1_4.index t 0 * 1 + 1 * 0 = t.val / 6; rw [e.1]; omega
  | ⟨1, _⟩ => show win1_4.index t 1 * 512 + 1 * r.val = t.val % 6 * 512 + r.val; rw [e.2.1]; omega
  | ⟨2, _⟩ => show win1_4.index t 2 * 1024 + 1 * k.val = k.val; rw [e.2.2]; omega

end Blocks

/-! ## The blocks cover the arrays -/

theorem mem3 (t : Fin cfg1.N) (i : S6x384x8x2432.Idx) :
    i ∈ ((cfg1.win 3).blk t).view.set ↔ (i 0).val = t.val / 6 ∧ t.val % 6 * 64 ≤ (i 1).val ∧ (i 1).val < t.val % 6 * 64 + 64 := by
  show i ∈ ((View.whole main_v2_0).slice (win1_3.rect t)).set ↔ _
  rw [View.set_slice_whole, Rect.mem_set_unit]
  have e := index3 t
  have h2 : (i 2).val < 8 := (i 2).isLt
  have h3 : (i 3).val < 2432 := (i 3).isLt
  have r0 : win1_3.index t 0 * win1_3.size 0 = t.val / 6 * 1 := by rw [e.1]; rfl
  have r1 : win1_3.index t 1 * win1_3.size 1 = t.val % 6 * 64 := by rw [e.2.1]; rfl
  have r2 : win1_3.index t 2 * win1_3.size 2 = 0 * 8 := by rw [e.2.2.1]; rfl
  have r3 : win1_3.index t 3 * win1_3.size 3 = 0 * 2432 := by rw [e.2.2.2]; rfl
  refine ⟨fun h => ?_, fun h a => ?_⟩
  · have q0 : win1_3.index t 0 * win1_3.size 0 ≤ (i 0).val ∧ (i 0).val < win1_3.index t 0 * win1_3.size 0 + 1 := h 0
    have q1 : win1_3.index t 1 * win1_3.size 1 ≤ (i 1).val ∧ (i 1).val < win1_3.index t 1 * win1_3.size 1 + 64 := h 1
    rw [r0] at q0; rw [r1] at q1; omega
  · match a with
    | ⟨0, _⟩ => show win1_3.index t 0 * win1_3.size 0 ≤ (i 0).val ∧ (i 0).val < win1_3.index t 0 * win1_3.size 0 + 1; rw [r0]; omega
    | ⟨1, _⟩ => show win1_3.index t 1 * win1_3.size 1 ≤ (i 1).val ∧ (i 1).val < win1_3.index t 1 * win1_3.size 1 + 64; rw [r1]; omega
    | ⟨2, _⟩ => show win1_3.index t 2 * win1_3.size 2 ≤ (i 2).val ∧ (i 2).val < win1_3.index t 2 * win1_3.size 2 + 8; rw [r2]; omega
    | ⟨3, _⟩ => show win1_3.index t 3 * win1_3.size 3 ≤ (i 3).val ∧ (i 3).val < win1_3.index t 3 * win1_3.size 3 + 2432; rw [r3]; omega

theorem mem4 (t : Fin cfg1.N) (i : S6x3072x1024.Idx) :
    i ∈ ((cfg1.win 4).blk t).view.set ↔ (i 0).val = t.val / 6 ∧ t.val % 6 * 512 ≤ (i 1).val ∧ (i 1).val < t.val % 6 * 512 + 512 := by
  show i ∈ ((View.whole main_v2_1).slice (win1_4.rect t)).set ↔ _
  rw [View.set_slice_whole, Rect.mem_set_unit]
  have e := index4 t
  have h2 : (i 2).val < 1024 := (i 2).isLt
  have r0 : win1_4.index t 0 * win1_4.size 0 = t.val / 6 * 1 := by rw [e.1]; rfl
  have r1 : win1_4.index t 1 * win1_4.size 1 = t.val % 6 * 512 := by rw [e.2.1]; rfl
  have r2 : win1_4.index t 2 * win1_4.size 2 = 0 * 1024 := by rw [e.2.2]; rfl
  refine ⟨fun h => ?_, fun h a => ?_⟩
  · have q0 : win1_4.index t 0 * win1_4.size 0 ≤ (i 0).val ∧ (i 0).val < win1_4.index t 0 * win1_4.size 0 + 1 := h 0
    have q1 : win1_4.index t 1 * win1_4.size 1 ≤ (i 1).val ∧ (i 1).val < win1_4.index t 1 * win1_4.size 1 + 512 := h 1
    rw [r0] at q0; rw [r1] at q1; omega
  · match a with
    | ⟨0, _⟩ => show win1_4.index t 0 * win1_4.size 0 ≤ (i 0).val ∧ (i 0).val < win1_4.index t 0 * win1_4.size 0 + 1; rw [r0]; omega
    | ⟨1, _⟩ => show win1_4.index t 1 * win1_4.size 1 ≤ (i 1).val ∧ (i 1).val < win1_4.index t 1 * win1_4.size 1 + 512; rw [r1]; omega
    | ⟨2, _⟩ => show win1_4.index t 2 * win1_4.size 2 ≤ (i 2).val ∧ (i 2).val < win1_4.index t 2 * win1_4.size 2 + 1024; rw [r2]; omega

theorem cover3 (i : S6x384x8x2432.Idx) : ∃ t : Fin cfg1.N, (cfg1.win 3).flush t = true ∧ i ∈ ((cfg1.win 3).blk t).view.set := by
  have h0 : (i 0).val < 6 := (i 0).isLt
  have h1 : (i 1).val < 384 := (i 1).isLt
  refine ⟨⟨(i 0).val * 6 + (i 1).val / 64, by rw [show cfg1.N = 36 from N_1]; omega⟩, flush1_3 _, ?_⟩
  rw [mem3]; dsimp only; omega

theorem cover4 (i : S6x3072x1024.Idx) : ∃ t : Fin cfg1.N, (cfg1.win 4).flush t = true ∧ i ∈ ((cfg1.win 4).blk t).view.set := by
  have h0 : (i 0).val < 6 := (i 0).isLt
  have h1 : (i 1).val < 3072 := (i 1).isLt
  refine ⟨⟨(i 0).val * 6 + (i 1).val / 512, by rw [show cfg1.N = 36 from N_1]; omega⟩, flush1_4 _, ?_⟩
  rw [mem4]; dsimp only; omega

/-! ## The second call's arrays, from the scales, the gradient and the weight's codes -/

section Arrays
variable (s : Vec Ideal S3 .f32) (dy : Vec Ideal S6x3072x1024 .bf16) (w : Vec Ideal S2432x1024 .fp8e4m3)

/-- The codes of the whole gradient, -/
def codes : Vec Ideal S6x3072x1024 .fp8e5m2 := fun j => Spec.code Spec.dBot Spec.dTop (s (ix1 1)) (dy j)
/-- the row of the gradient that group `g`, place `b` of the product array is about, -/
def rowOf (g : Fin 384) (b : Fin 8) : Fin 3072 := ⟨g.val * 8 + b.val, by have := g.isLt; have := b.isLt; omega⟩
/-- and the whole product. -/
def prod : Vec Ideal S6x384x8x2432 .bf16 := fun j =>
  Spec.product (s (ix1 1)) (s (ix1 0)) (s (ix1 2)) (fun k => dy (ix3 (j 0) (rowOf (j 1) (j 2)) k)) (fun k => w (ix2 (j 3) k))

end Arrays

section Call
variable {V : (c : Dev nD) → (b : Ref sig .tc) → Buf (Elt Ideal) ((c : Thread nD τ).loc b)} {c : Dev nD}
  {s : Vec Ideal S3 .f32} {dy : Vec Ideal S6x3072x1024 .bf16} {w : Vec Ideal S2432x1024 .fp8e4m3}

theorem iblk0_apply (hs : V c main_v1_1 = s) (t : Fin cfg1.N) (k : Fin 3) : (Dgrad.iblk V c 0 t : Vec Ideal S3 .f32) (ix1 k) = s (ix1 k) := by
  subst hs; exact read0 (V c main_v1_1) t k
theorem iblk1_apply (hd : V c main_arg0 = dy) (t : Fin cfg1.N) (r : Fin 512) (k : Fin 1024) :
    (Dgrad.iblk V c 1 t : Vec Ideal S1x512x1024 .bf16) (ix3 0 r k) = dy (ix3 (batch t) (row t r) k) := by
  subst hd; exact read1 (V c main_arg0) t r k
theorem iblk2_apply (hw : V c main_v1_0 = w) (t : Fin cfg1.N) (n : Fin 2432) (k : Fin 1024) :
    (Dgrad.iblk V c 2 t : Vec Ideal S2432x1024 .fp8e4m3) (ix2 n k) = w (ix2 n k) := by
  subst hw; exact read2 (V c main_v1_0) t n k

/-- What point `t` writes back to the codes' array is its block of the codes. -/
theorem flushed_codes (hs : V c main_v1_1 = s) (hd : V c main_arg0 = dy) (t : Fin cfg1.N) :
    (Dgrad.dat V c).flushed 4 t = ((cfg1.win 4).blk t).view.read (Elt Ideal) (codes s dy) := by
  show k1_pay2 (Dgrad.iblk V c 1 t : Vec Ideal S1x512x1024 .bf16) _ = _
  funext (j : S1x512x1024.Idx)
  have hj : j = ix3 0 (j 1) (j 2) := by
    refine (eq_ix3 j).trans (funext fun a => ?_)
    match a with
    | ⟨0, _⟩ => exact Fin.ext (by have : (j 0).val < 1 := (j 0).isLt; show (j 0).val = 0; omega)
    | ⟨1, _⟩ => rfl
    | ⟨2, _⟩ => rfl
  rw [hj]
  refine (Block.pay2_apply _ _ (j 1) (j 2)).trans ?_
  refine Eq.trans ?_ (read4 (codes s dy) t (j 1) (j 2)).symm
  show _ = Spec.code Spec.dBot Spec.dTop (s (ix1 1)) (dy (ix3 (batch t) (row t (j 1)) (j 2)))
  exact congr (congrArg (Spec.code Spec.dBot Spec.dTop) (iblk0_apply hs t 1)) (iblk1_apply hd t (j 1) (j 2))

/-- What point `t` writes back to the product array is its block of the product. -/
theorem flushed_prod (hs : V c main_v1_1 = s) (hd : V c main_arg0 = dy) (hw : V c main_v1_0 = w) (t : Fin cfg1.N) :
    (Dgrad.dat V c).flushed 3 t = ((cfg1.win 3).blk t).view.read (Elt Ideal) (prod s dy w) := by
  show k1_pay3 (Dgrad.iblk V c 1 t : Vec Ideal S1x512x1024 .bf16) _ _ _ _ = _
  funext (j : S1x64x8x2432.Idx)
  have hj : j = ix4 0 (j 1) (j 2) (j 3) := by
    refine (eq_ix4 j).trans (funext fun a => ?_)
    match a with
    | ⟨0, _⟩ => exact Fin.ext (by have : (j 0).val < 1 := (j 0).isLt; show (j 0).val = 0; omega)
    | ⟨1, _⟩ => rfl
    | ⟨2, _⟩ => rfl
    | ⟨3, _⟩ => rfl
  have ha : (j 1).val < 64 := (j 1).isLt
  have hb : (j 2).val < 8 := (j 2).isLt
  rw [hj]
  refine (Block.pay3_apply _ _ _ _ _ (j 1) (j 2) (j 3) ⟨(j 1).val * 8 + (j 2).val, by omega⟩ rfl).trans ?_
  refine Eq.trans ?_ (read3 (prod s dy w) t (j 1) (j 2) (j 3)).symm
  show _ = Spec.product (s (ix1 1)) (s (ix1 0)) (s (ix1 2))
    (fun k => dy (ix3 (batch t) (rowOf (group t (j 1)) (j 2)) k)) (fun k => w (ix2 (j 3) k))
  have hr : row t ⟨(j 1).val * 8 + (j 2).val, by omega⟩ = rowOf (group t (j 1)) (j 2) := Fin.ext (by
    show t.val % 6 * 512 + ((j 1).val * 8 + (j 2).val) = (t.val % 6 * 64 + (j 1).val) * 8 + (j 2).val
    omega)
  rw [← hr]
  exact congr (congr (congr (congr (congrArg Spec.product (iblk0_apply hs t 1)) (iblk0_apply hs t 0)) (iblk0_apply hs t 2))
    (funext fun k => iblk1_apply hd t _ k)) (funext fun k => iblk2_apply hw t (j 3) k)

theorem array_codes (hs : V c main_v1_1 = s) (hd : V c main_arg0 = dy) : (Dgrad.dat V c).arrAt 4 cfg1.N = codes s dy :=
  (Dgrad.dat V c).arrAt_eq_of_cover 4 _ (fun t _ => flushed_codes hs hd t) cover4
theorem array_prod (hs : V c main_v1_1 = s) (hd : V c main_arg0 = dy) (hw : V c main_v1_0 = w) : (Dgrad.dat V c).arrAt 3 cfg1.N = prod s dy w :=
  (Dgrad.dat V c).arrAt_eq_of_cover 3 _ (fun t _ => flushed_prod hs hd hw t) cover3

end Call

/-! ## The whole program's arrays -/

section Program
variable (m : (ℓ : Loc nD τ sig) → Buf (Elt Ideal) ℓ) (ρ : Dev nD → PrngReg)

/-- The launch contents of the two arguments on core `c`. -/
abbrev arg0 (c : Dev nD) : Vec Ideal S6x3072x1024 .bf16 := m ((c : Thread nD τ).loc main_arg0)
abbrev arg1 (c : Dev nD) : Vec Ideal S2432x1024 .f32 := m ((c : Thread nD τ).loc main_arg1)

/-- The first call finds the gradient with its two leading axes as one, and the weight. -/
theorem at1_v0 (c : Dev nD) : at1 m c main_v0 = shapeCast S18432x1024 (arg0 m c) shapeCasts_S6x3072x1024_S18432x1024 := by
  show StableHlo.after hostOps0 (V0 m c) (Proc.devRef .tc main_v0) = _
  after_results
  rfl
theorem at1_arg1 (c : Dev nD) : at1 m c main_arg1 = arg1 m c := V1_of m c main_arg1 (by decide)

/-- What it leaves: the three scale words -/
theorem scales_eq (c : Dev nD) (k : Fin 3) : scales m c (ix1 k) = (![Spec.scale Spec.dRecip (Spec.absMax (arg0 m c)),
    Spec.inverse Spec.dRecip (Spec.absMax (arg0 m c)), Spec.scale Spec.wRecip (Spec.absMax (arg1 m c))] : Fin 3 → EReal) k := by
  have hw : Scales.wBlk (at1 m) c = arg1 m c := (Scales.wBlk_eq (at1 m) c).trans (at1_arg1 m c)
  unfold scales
  rw [hw, Scales.wScale_eq, Scales.dScale_eq (at1_v0 m c), Scales.dInv_eq (at1_v0 m c)]
/-- and the weight's codes. -/
theorem codes_eq (c : Dev nD) : Whole.codes m c = Spec.wCodes (arg1 m c) := by
  have hw : Scales.wBlk (at1 m) c = arg1 m c := (Scales.wBlk_eq (at1 m) c).trans (at1_arg1 m c)
  unfold Whole.codes
  rw [hw]
  exact funext fun j => Scales.wCodes_apply _ j

theorem at2_arg0 (c : Dev nD) : at2 m c main_arg0 = arg0 m c :=
  (W2_of m c main_arg0 (by decide) (by decide)).trans (V1_of m c main_arg0 (by decide))

/-- The product, still in groups of eight rows; -/
theorem at3_prod (c : Dev nD) : at3 m c main_v2_0 = prod (scales m c) (arg0 m c) (Spec.wCodes (arg1 m c)) :=
  (W3_prod m c).trans (array_prod (W2_scales m c) (at2_arg0 m c) ((W2_codes m c).trans (codes_eq m c)))
/-- at the end, flat. -/
theorem result_prod (c : Dev nD) : at4 m c main_v3 = Spec.prod (arg0 m c) (arg1 m c) := by
  have e : at4 m c main_v3 = shapeCast S6x3072x2432 (at3 m c main_v2_0 : Vec Ideal S6x384x8x2432 .bf16) shapeCasts_S6x384x8x2432_S6x3072x2432 := by
    show StableHlo.after hostOps2 (W3 m c) (Proc.devRef .tc main_v3) = _
    after_results
    rfl
  rw [e, at3_prod]
  funext (j : S6x3072x2432.Idx)
  have h1 : (j 1).val < 3072 := (j 1).isLt
  refine (shapeCast_apply _ _ j (ix4 (j 0) ⟨(j 1).val / 8, by omega⟩ ⟨(j 1).val % 8, by omega⟩ (j 2)) (by
    rw [Shape.rowMajor_val_four, Shape.rowMajor_val_three]
    show (((j 0).val * 384 + (j 1).val / 8) * 8 + (j 1).val % 8) * 2432 + (j 2).val = ((j 0).val * 3072 + (j 1).val) * 2432 + (j 2).val
    omega)).trans ?_
  have hr : rowOf ⟨(j 1).val / 8, by omega⟩ ⟨(j 1).val % 8, by omega⟩ = j 1 := Fin.ext (by
    show (j 1).val / 8 * 8 + (j 1).val % 8 = (j 1).val; omega)
  show Spec.product (scales m c (ix1 1)) (scales m c (ix1 0)) (scales m c (ix1 2))
    (fun k => arg0 m c (ix3 (j 0) (rowOf ⟨(j 1).val / 8, by omega⟩ ⟨(j 1).val % 8, by omega⟩) k)) (fun k => Spec.wCodes (arg1 m c) (ix2 (j 2) k)) = _
  rw [hr, scales_eq, scales_eq, scales_eq]
  rfl
/-- The gradient's codes. -/
theorem result_codes (c : Dev nD) : at4 m c main_v2_1 = Spec.dCodes (arg0 m c) := by
  refine (W4_of m c main_v2_1 (by decide)).trans ((W3_codes m c).trans ((array_codes (W2_scales m c) (at2_arg0 m c)).trans ?_))
  funext j
  unfold codes
  rw [scales_eq]
  rfl
/-- The weight's codes. -/
theorem result_wcodes (c : Dev nD) : at4 m c main_v1_0 = Spec.wCodes (arg1 m c) :=
  (W4_of m c main_v1_0 (by decide)).trans <| (W3_of m c main_v1_0 (by decide) (by decide)).trans <| (W2_codes m c).trans (codes_eq m c)

theorem at3_scales (c : Dev nD) : at3 m c main_v1_1 = scales m c :=
  (W3_of m c main_v1_1 (by decide) (by decide)).trans (W2_scales m c)

/-- One word of the scales as a scalar. -/
theorem word_apply (x : Vec Ideal S3 .f32) (k : Nat) (hk : k < 3) (h : S3.Slices ![k] S1) (j : S_.Idx) :
    shapeCast S_ (extractStridedSlice S1 ![k] x h) shapeCasts_S1_S_ j = x (ix1 ⟨k, hk⟩) := by
  rw [shapeCast_apply _ _ j (ix1 (0 : Fin 1)) rfl]
  exact congrArg x (funext fun a => by match a with | ⟨0, _⟩ => rfl)

/-- The gradient's scale -/
theorem result_dscale (c : Dev nD) : at4 m c main_v5 = Spec.dScale (arg0 m c) := by
  have e : at4 m c main_v5 = shapeCast S_ (extractStridedSlice S1 ![0] (at3 m c main_v1_1 : Vec Ideal S3 .f32) slices_S3_S1_0) shapeCasts_S1_S_ := by
    show StableHlo.after hostOps2 (W3 m c) (Proc.devRef .tc main_v5) = _
    after_results
    rfl
  rw [e, at3_scales]
  funext (j : S_.Idx)
  rw [word_apply _ 0 (by decide), scales_eq]
  rfl
/-- and the weight's. -/
theorem result_wscale (c : Dev nD) : at4 m c main_v7 = Spec.wScale (arg1 m c) := by
  have e : at4 m c main_v7 = shapeCast S_ (extractStridedSlice S1 ![2] (at3 m c main_v1_1 : Vec Ideal S3 .f32) slices_S3_S1_2) shapeCasts_S1_S_ := by
    show StableHlo.after hostOps2 (W3 m c) (Proc.devRef .tc main_v7) = _
    after_results
    rfl
  rw [e, at3_scales]
  funext (j : S_.Idx)
  rw [word_apply _ 2 (by decide), scales_eq]
  rfl

/-- The kernel's run, read: the five results, the arguments unchanged. -/
theorem run : θ_run defs (onTc (τ := τ) (main (F := Ideal))) ⟨m, fun _ => 0, ρ⟩ fun r => ∀ c : Dev nD,
      r.2.mem ((c : Thread nD τ).loc main_v3) = Spec.prod (arg0 m c) (arg1 m c)
      ∧ r.2.mem ((c : Thread nD τ).loc main_v2_1) = Spec.dCodes (arg0 m c)
      ∧ r.2.mem ((c : Thread nD τ).loc main_v5) = Spec.dScale (arg0 m c)
      ∧ r.2.mem ((c : Thread nD τ).loc main_v1_0) = Spec.wCodes (arg1 m c)
      ∧ r.2.mem ((c : Thread nD τ).loc main_v7) = Spec.wScale (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c main_v3 (mem_uc main_v3)).trans (result_prod m c),
      (h.1 c main_v2_1 (mem_uc main_v2_1)).trans (result_codes m c),
      (h.1 c main_v5 (mem_uc main_v5)).trans (result_dscale m c),
      (h.1 c main_v1_0 (mem_uc main_v1_0)).trans (result_wcodes m c),
      (h.1 c main_v7 (mem_uc main_v7)).trans (result_wscale m c),
      (h.1 c main_arg0 (mem_uc main_arg0)).trans (W4_arg0 m c),
      (h.1 c main_arg1 (mem_uc main_arg1)).trans (W4_arg1 m c)⟩)
    (Whole.run m ρ)

end Program

end Cert.KernelIdeal.Result

end
-- ==== Proof.ReferenceIdeal.Body.lean ====
/-
  The values the reference's one body stores, entry by entry, over the extended reals.
-/
module

public import proofs.«01_k».proof.Proof.Exponent
public import proofs.«01_k».proof.Proof.Maximum
public import proofs.«01_k».proof.Proof.Results
public import proofs.«01_k».proof.Proof.Gen.ReferenceIdeal.Skeleton
public import Idealize.ShloMosaic.Lib.Pipeline.Value
public import Idealize.ShloMosaic.Lib.MatmulPlain

@[expose] public section

noncomputable section

namespace Cert.ReferenceIdeal.Body

open Cert.ReferenceIdeal Cert.ReferenceIdeal.Gen Idealize.ShloMosaic
open Idealize.ShloMosaic.ValueIdx Cert.Spec

instance : Nonempty S2432x1024.Idx := ⟨ix2 0 0⟩
instance : Nonempty S6x3072x1024.Idx := ⟨ix3 0 0 0⟩

/-! ## The exponent, at the one entry of its array -/

/-- The exponent as the body writes it, from the maximum spread over an array of one entry and the word of the reciprocal. -/
def expo (v : FVec Ideal S1x1 .f32) (b : BitVec 32) : FVec Ideal S1x1 .f32 :=
  select (cmpf .oeq v (broadcast S1x1 (Scalar.ofBits (F := Ideal) .f32 0x00000000#32))) (broadcast S1x1 (Scalar.ofBits (F := Ideal) .f32 0x00000000#32))
    (select (andi (cmpf .oge (mulf v (broadcast S1x1 (Scalar.ofBits (F := Ideal) .f32 b))) (broadcast S1x1 (Scalar.ofBits (F := Ideal) .f32 0x00800000#32)))
        (cmpf .olt (mulf v (broadcast S1x1 (Scalar.ofBits (F := Ideal) .f32 b))) (broadcast S1x1 (Scalar.ofBits (F := Ideal) .f32 0x7E800000#32))))
      (addf (floor (divf (log (mulf v (broadcast S1x1 (Scalar.ofBits (F := Ideal) .f32 b)))) (log (broadcast S1x1 (Scalar.ofBits (F := Ideal) .f32 0x40000000#32)))))
        (broadcast S1x1 (Scalar.ofBits (F := Ideal) .f32 0x3F800000#32)))
      (broadcast S1x1 (Scalar.ofBits (F := Ideal) .f32 0x00000000#32)))

theorem expo_apply (v : FVec Ideal S1x1 .f32) (b : BitVec 32) (i : S1x1.Idx) : expo v b i = exponentReal (v i) (v i * Ideal.ofBits .f32 b) := by
  unfold exponentReal
  exact rfl

/-- The gradient's largest absolute value, as the body takes it; -/
def dTopmost (v0 : Vec Ideal S6x3072x1024 .bf16) : EReal :=
  extractAt ![0, 0, 0] (shapeCast S1x1x1 (multiReduction (F := Ideal) (φ := .f32) .maximumf [1, 2] S1
    (shapeCast S1x18432x1024 (absf (F := Ideal) (φ := .f32) (k0_pay1 v0)) shapeCasts_S18432x1024_S1x18432x1024)
      0xFF800000#32 reduces_S1x18432x1024_S1 (.inl rfl) rfl) shapeCasts_S1_S1x1x1) inpos_S1x1x1_p0_0_0
/-- the weight's. -/
def wTopmost (v42 : FVec Ideal S1x2432x1024 .f32) : EReal :=
  extractAt ![0, 0, 0] (shapeCast S1x1x1 (multiReduction (F := Ideal) (φ := .f32) .maximumf [1, 2] S1 v42
      0xFF800000#32 reduces_S1x2432x1024_S1 (.inl rfl) rfl) shapeCasts_S1_S1x1x1) inpos_S1x1x1_p0_0_0

theorem pay2_eq (v0 : Vec Ideal S6x3072x1024 .bf16) : k0_pay2 v0 = expo (broadcast S1x1 (dTopmost v0)) 0x37924925#32 := by
  delta k0_pay2 expo dTopmost
  exact rfl
theorem pay6_eq (v42 : FVec Ideal S1x2432x1024 .f32) : k0_pay6 v42 = expo (broadcast S1x1 (wTopmost v42)) 0x3B124925#32 := by
  delta k0_pay6 expo wTopmost
  exact rfl

theorem dTopmost_eq (dy : Vec Ideal S6x3072x1024 .bf16) : dTopmost dy = absMax dy := by
  unfold dTopmost
  obtain ⟨j, hj⟩ := extract_shapeCast (multiReduction (F := Ideal) (φ := .f32) .maximumf [1, 2] S1
    (shapeCast S1x18432x1024 (absf (F := Ideal) (φ := .f32) (k0_pay1 dy)) shapeCasts_S18432x1024_S1x18432x1024)
      0xFF800000#32 reduces_S1x18432x1024_S1 (.inl rfl) rfl) shapeCasts_S1_S1x1x1 ![0, 0, 0] inpos_S1x1x1_p0_0_0
  refine hj.trans ?_
  refine eq_of_forall_ge_iff fun c => ?_
  refine (reduce_le_total (φ := .f32) _ _ _ _ _ ofBits_bot_f32 (fun b => by match b with | ⟨0, _⟩ => rfl) j c).trans ?_
  rw [absMax_le]
  refine (forall_shapeCast (absf (F := Ideal) (φ := .f32) (k0_pay1 dy)) _ (· ≤ c)).trans ?_
  exact forall_shapeCast dy shapeCasts_S6x3072x1024_S18432x1024 (fun v => max v (-v) ≤ c)

theorem wTopmost_eq (w : Vec Ideal S2432x1024 .f32) : wTopmost (k0_pay5 w) = absMax w := by
  unfold wTopmost
  obtain ⟨j, hj⟩ := extract_shapeCast (multiReduction (F := Ideal) (φ := .f32) .maximumf [1, 2] S1 (k0_pay5 w)
      0xFF800000#32 reduces_S1x2432x1024_S1 (.inl rfl) rfl) shapeCasts_S1_S1x1x1 ![0, 0, 0] inpos_S1x1x1_p0_0_0
  refine hj.trans ?_
  refine eq_of_forall_ge_iff fun c => ?_
  refine (reduce_le_total (φ := .f32) _ _ _ _ _ ofBits_bot_f32 (fun b => by match b with | ⟨0, _⟩ => rfl) j c).trans ?_
  rw [absMax_le]
  exact forall_shapeCast (absf (F := Ideal) (φ := .f32) w) _ (· ≤ c)

theorem pay2_apply (dy : Vec Ideal S6x3072x1024 .bf16) (i : S1x1.Idx) : k0_pay2 dy i = exponentReal (absMax dy) (absMax dy * dRecip) := by
  rw [pay2_eq, expo_apply, broadcast_apply, dTopmost_eq]
theorem pay6_apply (w : Vec Ideal S2432x1024 .f32) (i : S1x1.Idx) : k0_pay6 (k0_pay5 w) i = exponentReal (absMax w) (absMax w * wRecip) := by
  rw [pay6_eq, expo_apply, broadcast_apply, wTopmost_eq]

/-! ## The scales and their reciprocals -/

/-- A power of two, entry by entry. -/
theorem up_apply (v : FVec Ideal S1x1 .f32) (i : S1x1.Idx) : exp2 v i = Ideal.exp2 (v i) := rfl

theorem pay3_apply (dy : Vec Ideal S6x3072x1024 .bf16) (i : S1x1.Idx) : k0_pay3 dy i = scale dRecip (absMax dy) := by
  unfold k0_pay3 scale
  rw [up_apply, pay2_apply, (exp2_exponentReal _ _).1]
theorem pay7_apply (w : Vec Ideal S2432x1024 .f32) (i : S1x1.Idx) : k0_pay7 (k0_pay5 w) i = scale wRecip (absMax w) := by
  unfold k0_pay7 scale
  rw [up_apply, pay6_apply, (exp2_exponentReal _ _).1]

/-- Two to minus an exponent, as the body writes it. -/
theorem down_apply (v : FVec Ideal S1x1 .f32) (i : S1x1.Idx) :
    exp2 (subf (broadcast S1x1 (Scalar.ofBits (F := Ideal) .f32 0x00000000#32)) v) i = Ideal.exp2 (Ideal.ofBits .f32 0x00000000#32 - v i) := rfl

/-- One entry spread over a shape is that entry everywhere. -/
theorem splat_apply {t : Shape} (v : FVec Ideal S1x1 .f32) (h : S1x1.Broadcasts t) (j : t.Idx) : ∃ i, broadcastTo t v h j = v i := ⟨_, rfl⟩

/-! ## The codes -/

/-- The gradient with its two leading axes as one. -/
theorem pay1_apply (dy : Vec Ideal S6x3072x1024 .bf16) (R : Fin 18432) (g : Fin 6) (r : Fin 3072) (k : Fin 1024) (hR : R.val = g.val * 3072 + r.val) :
    k0_pay1 dy (ix2 R k) = dy (ix3 g r k) := by
  unfold k0_pay1
  rw [extf_apply]
  refine shapeCast_apply dy _ (ix2 R k) (ix3 g r k) ?_
  rw [Shape.rowMajor_val_three, Shape.rowMajor_val_two]
  show (g.val * 3072 + r.val) * 1024 + k.val = R.val * 1024 + k.val
  rw [hR]

theorem pay4_apply (dy : Vec Ideal S6x3072x1024 .bf16) (R : Fin 18432) (g : Fin 6) (r : Fin 3072) (k : Fin 1024) (hR : R.val = g.val * 3072 + r.val) :
    k0_pay4 dy (ix2 R k) = dCodes dy (ix3 g r k) := by
  obtain ⟨i, hi⟩ := splat_apply (exp2 (subf (broadcast S1x1 (Scalar.ofBits (F := Ideal) .f32 0x00000000#32)) (k0_pay2 dy))) broadcasts_S1x1_S18432x1024 (ix2 R k)
  have hi' := hi.trans (down_apply (k0_pay2 dy) i)
  rw [pay2_apply, (exp2_exponentReal _ _).2] at hi'
  unfold k0_pay4 dCodes code inverse
  rw [truncf_apply, minimumf_apply, maximumf_apply, mulf_apply, broadcast_apply, broadcast_apply, Ideal.ofBits_def, Ideal.ofBits_def, hi', pay1_apply dy R g r k hR]

theorem pay10_eq (dy : Vec Ideal S6x3072x1024 .bf16) : k0_pay10 (k0_pay4 dy) = dCodes dy := by
  funext (j : S6x3072x1024.Idx)
  have h0 : (j 0).val < 6 := (j 0).isLt
  have h1 : (j 1).val < 3072 := (j 1).isLt
  refine (shapeCast_apply (k0_pay4 dy) _ j (ix2 ⟨(j 0).val * 3072 + (j 1).val, by omega⟩ (j 2)) ?_).trans ?_
  · rw [Shape.rowMajor_val_three, Shape.rowMajor_val_two]
    rfl
  · refine (pay4_apply dy _ (j 0) (j 1) (j 2) rfl).trans ?_
    exact congrArg (dCodes dy) (eq_ix3 j).symm

theorem pay8_eq (w : Vec Ideal S2432x1024 .f32) : k0_pay8 w (k0_pay5 w) = wCodes w := by
  funext (j : S2432x1024.Idx)
  obtain ⟨i, hi⟩ := splat_apply (exp2 (subf (broadcast S1x1 (Scalar.ofBits (F := Ideal) .f32 0x00000000#32)) (k0_pay6 (k0_pay5 w)))) broadcasts_S1x1_S2432x1024 j
  have hi' := hi.trans (down_apply (k0_pay6 (k0_pay5 w)) i)
  rw [pay6_apply, (exp2_exponentReal _ _).2] at hi'
  unfold k0_pay8 wCodes code inverse
  rw [truncf_apply, minimumf_apply, maximumf_apply, mulf_apply, broadcast_apply, broadcast_apply, Ideal.ofBits_def, Ideal.ofBits_def, hi']

/-! ## The product -/

theorem pay9_apply (dy : Vec Ideal S6x3072x1024 .bf16) (w : Vec Ideal S2432x1024 .f32) (g : Fin 6) (r : Fin 3072) (n : Fin 2432) :
    k0_pay9 (k0_pay3 dy) (k0_pay4 dy) w (k0_pay5 w) (ix3 g r n) = entry dy w g r n := by
  have hg := g.isLt
  have hr := r.isLt
  let R : Fin 18432 := ⟨g.val * 3072 + r.val, by omega⟩
  unfold k0_pay9
  rw [shapeCast_apply _ _ (ix3 g r n) (ix2 R n) (by
    rw [Shape.rowMajor_val_three, Shape.rowMajor_val_two]
    rfl)]
  simp only [truncf_apply, mulf_apply]
  rw [pay8_eq]
  obtain ⟨i, hi⟩ := splat_apply (mulf (k0_pay3 dy) (k0_pay7 (k0_pay5 w))) broadcasts_S1x1_S18432x2432 (ix2 R n)
  rw [mulf_apply, pay3_apply, pay7_apply] at hi
  unfold entry product
  refine congr (congrArg (fun a b : EReal => a * b) ?_) hi
  refine (Ideal.matmul_transposedRhs_apply (M := 18432) (K := 1024) (N := 2432) none (k0_pay4 dy) (wCodes w) _ R n).trans ?_
  rw [constant_apply, Ideal.ofBits_zero_f32, zero_add]
  refine Finset.sum_congr rfl fun k _ => ?_
  rw [pay4_apply dy R g r k rfl]
  rfl

theorem pay9_eq (dy : Vec Ideal S6x3072x1024 .bf16) (w : Vec Ideal S2432x1024 .f32) :
    k0_pay9 (k0_pay3 dy) (k0_pay4 dy) w (k0_pay5 w) = prod dy w := by
  funext (j : S6x3072x2432.Idx)
  rw [eq_ix3 j]
  exact pay9_apply dy w (j 0) (j 1) (j 2)

end Cert.ReferenceIdeal.Body

end
-- ==== Proof.ReferenceIdeal.Value.lean ====
/-
  What the reference's five result arrays hold after its run, entry by entry (extended reals). The reference has no grid: its
  one body works on the whole arrays, and after it the two scales are reshaped to scalars.
-/
module

public import proofs.«01_k».proof.Proof.ReferenceIdeal.Body
public import proofs.«01_k».proof.Proof.Gen.ReferenceIdeal.Frame
public import Idealize.ShloMosaic.Lib.Pipeline.Value

@[expose] public section

noncomputable section

namespace Cert.ReferenceIdeal.Result

open Cert.ReferenceIdeal Cert.ReferenceIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's five stores -/

section Body
variable (x0 : Vec Ideal S6x3072x1024 .bf16) (x1 : Vec Ideal S2432x1024 .f32)

theorem ld0 : View.ld x0 r0_0 = x0 := View.ld_unit_zero (S := S6x3072x1024) hz3 _ x0
theorem ld1 : View.ld x1 r0_1 = x1 := View.ld_unit_zero (S := S2432x1024) hz2 _ x1

theorem out2 : out0_2 (F := Ideal) x0 x1 = Spec.prod x0 x1 := by
  unfold out0_2 k0_pay13 k0_pay12 k0_pay11
  rw [View.canon_unit_zero hz3, ld0, ld1]
  exact Body.pay9_eq x0 x1
theorem out3 : out0_3 (F := Ideal) x0 x1 = Spec.dCodes x0 := by
  unfold out0_3 k0_pay12
  rw [View.canon_unit_zero hz3, ld0]
  exact Body.pay10_eq x0
theorem out4 : out0_4 (F := Ideal) x0 x1 = fun _ => Spec.scale Spec.dRecip (Spec.absMax x0) := by
  unfold out0_4 k0_pay11
  rw [View.canon_unit_zero hz2, ld0]
  exact funext fun i => Body.pay3_apply x0 i
theorem out5 : out0_5 (F := Ideal) x0 x1 = Spec.wCodes x1 := by
  unfold out0_5 k0_pay13
  rw [View.canon_unit_zero hz2, ld1]
  exact Body.pay8_eq x1
theorem out6 : out0_6 (F := Ideal) x0 x1 = fun _ => Spec.scale Spec.wRecip (Spec.absMax x1) := by
  unfold out0_6 k0_pay13
  rw [View.canon_unit_zero hz2, ld1]
  exact funext fun i => Body.pay7_apply x1 i

end Body

/-! ## The one point's blocks are the arrays -/

section Blocks
variable (m : (ℓ : Loc nD τ sig) → Buf (Elt Ideal) ℓ) (ρ : Dev nD → PrngReg)

/-- The launch contents of the two arguments on core `c`. -/
abbrev arg0 (c : Dev nD) : Vec Ideal S6x3072x1024 .bf16 := m ((c : Thread nD τ).loc main_arg0)
abbrev arg1 (c : Dev nD) : Vec Ideal S2432x1024 .f32 := m ((c : Thread nD τ).loc main_arg1)

/-- The one grid point. -/
def pt : Fin cfg0.N := ⟨0, by rw [show cfg0.N = 1 from N_0]; exact Nat.one_pos⟩

theorem iblk0_eq (c : Dev nD) (t : Fin cfg0.N) : (iblk m c 0 t : Vec Ideal S6x3072x1024 .bf16) = arg0 m c := by
  funext (j : S6x3072x1024.Idx)
  refine congrArg (arg0 m c) (funext fun a => Fin.ext ?_)
  match a with
  | ⟨0, _⟩ => show 0 * 6 + 1 * (j 0).val = (j 0).val; omega
  | ⟨1, _⟩ => show 0 * 3072 + 1 * (j 1).val = (j 1).val; omega
  | ⟨2, _⟩ => show 0 * 1024 + 1 * (j 2).val = (j 2).val; omega
theorem iblk1_eq (c : Dev nD) (t : Fin cfg0.N) : (iblk m c 1 t : Vec Ideal S2432x1024 .f32) = arg1 m c := by
  funext (j : S2432x1024.Idx)
  refine congrArg (arg1 m c) (funext fun a => Fin.ext ?_)
  match a with
  | ⟨0, _⟩ => show 0 * 2432 + 1 * (j 0).val = (j 0).val; omega
  | ⟨1, _⟩ => show 0 * 1024 + 1 * (j 1).val = (j 1).val; omega

theorem read2 (A : Vec Ideal S6x3072x2432 .bf16) (t : Fin cfg0.N) : ((cfg0.win 2).blk t).view.read (Elt Ideal) A = A := by
  funext (j : S6x3072x2432.Idx)
  refine congrArg A (funext fun a => Fin.ext ?_)
  match a with
  | ⟨0, _⟩ => show 0 * 6 + 1 * (j 0).val = (j 0).val; omega
  | ⟨1, _⟩ => show 0 * 3072 + 1 * (j 1).val = (j 1).val; omega
  | ⟨2, _⟩ => show 0 * 2432 + 1 * (j 2).val = (j 2).val; omega
theorem read3 (A : Vec Ideal S6x3072x1024 .fp8e5m2) (t : Fin cfg0.N) : ((cfg0.win 3).blk t).view.read (Elt Ideal) A = A := by
  funext (j : S6x3072x1024.Idx)
  refine congrArg A (funext fun a => Fin.ext ?_)
  match a with
  | ⟨0, _⟩ => show 0 * 6 + 1 * (j 0).val = (j 0).val; omega
  | ⟨1, _⟩ => show 0 * 3072 + 1 * (j 1).val = (j 1).val; omega
  | ⟨2, _⟩ => show 0 * 1024 + 1 * (j 2).val = (j 2).val; omega
theorem read4 (A : Vec Ideal S1x1 .f32) (t : Fin cfg0.N) : ((cfg0.win 4).blk t).view.read (Elt Ideal) A = A := by
  funext (j : S1x1.Idx)
  refine congrArg A (funext fun a => Fin.ext ?_)
  match a with
  | ⟨0, _⟩ => show 0 * 1 + 1 * (j 0).val = (j 0).val; omega
  | ⟨1, _⟩ => show 0 * 1 + 1 * (j 1).val = (j 1).val; omega
theorem read5 (A : Vec Ideal S2432x1024 .fp8e4m3) (t : Fin cfg0.N) : ((cfg0.win 5).blk t).view.read (Elt Ideal) A = A := by
  funext (j : S2432x1024.Idx)
  refine congrArg A (funext fun a => Fin.ext ?_)
  match a with
  | ⟨0, _⟩ => show 0 * 2432 + 1 * (j 0).val = (j 0).val; omega
  | ⟨1, _⟩ => show 0 * 1024 + 1 * (j 1).val = (j 1).val; omega
theorem read6 (A : Vec Ideal S1x1 .f32) (t : Fin cfg0.N) : ((cfg0.win 6).blk t).view.read (Elt Ideal) A = A := by
  funext (j : S1x1.Idx)
  refine congrArg A (funext fun a => Fin.ext ?_)
  match a with
  | ⟨0, _⟩ => show 0 * 1 + 1 * (j 0).val = (j 0).val; omega
  | ⟨1, _⟩ => show 0 * 1 + 1 * (j 1).val = (j 1).val; omega

theorem cover2 (i : S6x3072x2432.Idx) : ∃ t : Fin cfg0.N, (cfg0.win 2).flush t = true ∧ i ∈ ((cfg0.win 2).blk t).view.set := by
  refine ⟨pt, flush0_2 _, ?_⟩
  show i ∈ ((View.whole main_v0_0).slice (win0_2.rect pt)).set
  rw [View.set_slice_whole, Rect.mem_set_unit]
  intro a
  match a with
  | ⟨0, _⟩ => exact ⟨show 0 * 6 ≤ (i 0).val by omega, show (i 0).val < 0 * 6 + 6 by have : (i 0).val < 6 := (i 0).isLt; omega⟩
  | ⟨1, _⟩ => exact ⟨show 0 * 3072 ≤ (i 1).val by omega, show (i 1).val < 0 * 3072 + 3072 by have : (i 1).val < 3072 := (i 1).isLt; omega⟩
  | ⟨2, _⟩ => exact ⟨show 0 * 2432 ≤ (i 2).val by omega, show (i 2).val < 0 * 2432 + 2432 by have : (i 2).val < 2432 := (i 2).isLt; omega⟩
theorem cover3 (i : S6x3072x1024.Idx) : ∃ t : Fin cfg0.N, (cfg0.win 3).flush t = true ∧ i ∈ ((cfg0.win 3).blk t).view.set := by
  refine ⟨pt, flush0_3 _, ?_⟩
  show i ∈ ((View.whole main_v0_1).slice (win0_3.rect pt)).set
  rw [View.set_slice_whole, Rect.mem_set_unit]
  intro a
  match a with
  | ⟨0, _⟩ => exact ⟨show 0 * 6 ≤ (i 0).val by omega, show (i 0).val < 0 * 6 + 6 by have : (i 0).val < 6 := (i 0).isLt; omega⟩
  | ⟨1, _⟩ => exact ⟨show 0 * 3072 ≤ (i 1).val by omega, show (i 1).val < 0 * 3072 + 3072 by have : (i 1).val < 3072 := (i 1).isLt; omega⟩
  | ⟨2, _⟩ => exact ⟨show 0 * 1024 ≤ (i 2).val by omega, show (i 2).val < 0 * 1024 + 1024 by have : (i 2).val < 1024 := (i 2).isLt; omega⟩
theorem cover4 (i : S1x1.Idx) : ∃ t : Fin cfg0.N, (cfg0.win 4).flush t = true ∧ i ∈ ((cfg0.win 4).blk t).view.set := by
  refine ⟨pt, flush0_4 _, ?_⟩
  show i ∈ ((View.whole main_v0_2).slice (win0_4.rect pt)).set
  rw [View.set_slice_whole, Rect.mem_set_unit]
  intro a
  match a with
  | ⟨0, _⟩ => exact ⟨show 0 * 1 ≤ (i 0).val by omega, show (i 0).val < 0 * 1 + 1 by have : (i 0).val < 1 := (i 0).isLt; omega⟩
  | ⟨1, _⟩ => exact ⟨show 0 * 1 ≤ (i 1).val by omega, show (i 1).val < 0 * 1 + 1 by have : (i 1).val < 1 := (i 1).isLt; omega⟩
theorem cover5 (i : S2432x1024.Idx) : ∃ t : Fin cfg0.N, (cfg0.win 5).flush t = true ∧ i ∈ ((cfg0.win 5).blk t).view.set := by
  refine ⟨pt, flush0_5 _, ?_⟩
  show i ∈ ((View.whole main_v0_3).slice (win0_5.rect pt)).set
  rw [View.set_slice_whole, Rect.mem_set_unit]
  intro a
  match a with
  | ⟨0, _⟩ => exact ⟨show 0 * 2432 ≤ (i 0).val by omega, show (i 0).val < 0 * 2432 + 2432 by have : (i 0).val < 2432 := (i 0).isLt; omega⟩
  | ⟨1, _⟩ => exact ⟨show 0 * 1024 ≤ (i 1).val by omega, show (i 1).val < 0 * 1024 + 1024 by have : (i 1).val < 1024 := (i 1).isLt; omega⟩
theorem cover6 (i : S1x1.Idx) : ∃ t : Fin cfg0.N, (cfg0.win 6).flush t = true ∧ i ∈ ((cfg0.win 6).blk t).view.set := by
  refine ⟨pt, flush0_6 _, ?_⟩
  show i ∈ ((View.whole main_v0_4).slice (win0_6.rect pt)).set
  rw [View.set_slice_whole, Rect.mem_set_unit]
  intro a
  match a with
  | ⟨0, _⟩ => exact ⟨show 0 * 1 ≤ (i 0).val by omega, show (i 0).val < 0 * 1 + 1 by have : (i 0).val < 1 := (i 0).isLt; omega⟩
  | ⟨1, _⟩ => exact ⟨show 0 * 1 ≤ (i 1).val by omega, show (i 1).val < 0 * 1 + 1 by have : (i 1).val < 1 := (i 1).isLt; omega⟩

/-! ## The five arrays -/

theorem array2 (c : Dev nD) : (dats m 0 c).arrAt 2 cfg0.N = Spec.prod (arg0 m c) (arg1 m c) :=
  (dats m 0 c).arrAt_eq_of_cover 2 _ (fun t _ => by
    rw [read2]
    show (dats m 0 c).after 2 t = _
    rw [after0_2]
    refine (out2 (iblk m c 0 t : Vec Ideal S6x3072x1024 .bf16) (iblk m c 1 t : Vec Ideal S2432x1024 .f32)).trans ?_
    rw [iblk0_eq, iblk1_eq]) cover2
theorem array3 (c : Dev nD) : (dats m 0 c).arrAt 3 cfg0.N = Spec.dCodes (arg0 m c) :=
  (dats m 0 c).arrAt_eq_of_cover 3 _ (fun t _ => by
    rw [read3]
    show (dats m 0 c).after 3 t = _
    rw [after0_3]
    refine (out3 (iblk m c 0 t : Vec Ideal S6x3072x1024 .bf16) (iblk m c 1 t : Vec Ideal S2432x1024 .f32)).trans ?_
    rw [iblk0_eq]) cover3
theorem array4 (c : Dev nD) : (dats m 0 c).arrAt 4 cfg0.N = (fun _ => Spec.scale Spec.dRecip (Spec.absMax (arg0 m c)) : S1x1.Idx → EReal) :=
  (dats m 0 c).arrAt_eq_of_cover 4 _ (fun t _ => by
    rw [read4]
    show (dats m 0 c).after 4 t = _
    rw [after0_4]
    refine (out4 (iblk m c 0 t : Vec Ideal S6x3072x1024 .bf16) (iblk m c 1 t : Vec Ideal S2432x1024 .f32)).trans ?_
    rw [iblk0_eq]) cover4
theorem array5 (c : Dev nD) : (dats m 0 c).arrAt 5 cfg0.N = Spec.wCodes (arg1 m c) :=
  (dats m 0 c).arrAt_eq_of_cover 5 _ (fun t _ => by
    rw [read5]
    show (dats m 0 c).after 5 t = _
    rw [after0_5]
    refine (out5 (iblk m c 0 t : Vec Ideal S6x3072x1024 .bf16) (iblk m c 1 t : Vec Ideal S2432x1024 .f32)).trans ?_
    rw [iblk1_eq]) cover5
theorem array6 (c : Dev nD) : (dats m 0 c).arrAt 6 cfg0.N = (fun _ => Spec.scale Spec.wRecip (Spec.absMax (arg1 m c)) : S1x1.Idx → EReal) :=
  (dats m 0 c).arrAt_eq_of_cover 6 _ (fun t _ => by
    rw [read6]
    show (dats m 0 c).after 6 t = _
    rw [after0_6]
    refine (out6 (iblk m c 0 t : Vec Ideal S6x3072x1024 .bf16) (iblk m c 1 t : Vec Ideal S2432x1024 .f32)).trans ?_
    rw [iblk1_eq]) cover6

/-! ## The two scalars -/

/-- One entry reshaped to a scalar. -/
theorem scalar_apply (x : EReal) (j : S_.Idx) : shapeCast S_ (fun _ : S1x1.Idx => x) shapeCasts_S1x1_S_ j = x := rfl

theorem tail1 (c : Dev nD) : Pipeline.afterTail₀ cfgs (dats m) 0 (V0 m) [hostOps1] c main_v1 = Spec.dScale (arg0 m c) := by
  have e : Pipeline.afterTail₀ cfgs (dats m) 0 (V0 m) [hostOps1] c main_v1
      = shapeCast S_ ((dats m 0 c).arrAt 4 cfg0.N : Vec Ideal S1x1 .f32) shapeCasts_S1x1_S_ := by
    unfold Pipeline.afterTail₀
    show StableHlo.after hostOps1 _ _ = _
    after_results
    exact congrArg (fun x : Vec Ideal S1x1 .f32 => shapeCast S_ x shapeCasts_S1x1_S_) (Pipeline.withArrays_arr spec0 launch0.win.arr_inj c _ _ 4)
  rw [e, array4]
  exact funext fun j => scalar_apply _ j
theorem tail2 (c : Dev nD) : Pipeline.afterTail₀ cfgs (dats m) 0 (V0 m) [hostOps1] c main_v2 = Spec.wScale (arg1 m c) := by
  have e : Pipeline.afterTail₀ cfgs (dats m) 0 (V0 m) [hostOps1] c main_v2
      = shapeCast S_ ((dats m 0 c).arrAt 6 cfg0.N : Vec Ideal S1x1 .f32) shapeCasts_S1x1_S_ := by
    unfold Pipeline.afterTail₀
    show StableHlo.after hostOps1 _ _ = _
    after_results
    exact congrArg (fun x : Vec Ideal S1x1 .f32 => shapeCast S_ x shapeCasts_S1x1_S_) (Pipeline.withArrays_arr spec0 launch0.win.arr_inj c _ _ 6)
  rw [e, array6]
  exact funext fun j => scalar_apply _ j

/-- The reference's run, read: the five results, the arguments unchanged. -/
theorem run : θ_run defs (onTc (τ := τ) (main (F := Ideal))) ⟨m, fun _ => 0, ρ⟩ fun r => ∀ c : Dev nD,
      r.2.mem ((c : Thread nD τ).loc main_v0_0) = Spec.prod (arg0 m c) (arg1 m c)
      ∧ r.2.mem ((c : Thread nD τ).loc main_v0_1) = Spec.dCodes (arg0 m c)
      ∧ r.2.mem ((c : Thread nD τ).loc main_v1) = Spec.dScale (arg0 m c)
      ∧ r.2.mem ((c : Thread nD τ).loc main_v0_3) = Spec.wCodes (arg1 m c)
      ∧ r.2.mem ((c : Thread nD τ).loc main_v2) = Spec.wScale (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array2 m c), ((h c).1 3).trans (array3 m c),
      ((h c).2 main_v1 (Pipeline.mem_restRefs_of main_v1 (by decide) (by decide))).trans (tail1 m c),
      ((h c).1 5).trans (array5 m c),
      ((h c).2 main_v2 (Pipeline.mem_restRefs_of main_v2 (by decide) (by decide))).trans (tail2 m c),
      ((h c).1 0).trans ((dats m 0 c).arrAt_in 0 rfl _), ((h c).1 1).trans ((dats m 0 c).arrAt_in 1 rfl _)⟩)
    (run_main m ρ)

end Blocks

end Cert.ReferenceIdeal.Result

end
-- ==== Proof.lean ====
/-
  The certificate of the two-call kernel (`Cert.Claim`, Defs.lean): every program runs to the end with its arguments
  unchanged (the three frames); dropping to the extended reals rewrites nothing (`preserves`); and on the extended reals the
  kernel and the reference leave the same five arrays (`algebraic`): the product, the gradient's codes and scale, the
  weight's codes and scale, each written out entry by entry in Proof/Results.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- The kernel and the reference leave the same arrays, whatever the arguments. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.Spec.prod (Cert.KernelIdeal.Result.arg0 m c) (Cert.KernelIdeal.Result.arg1 m c),
    fun c => Cert.Spec.dCodes (Cert.KernelIdeal.Result.arg0 m c), fun c => Cert.Spec.dScale (Cert.KernelIdeal.Result.arg0 m c),
    fun c => Cert.Spec.wCodes (Cert.KernelIdeal.Result.arg1 m c), fun c => Cert.Spec.wScale (Cert.KernelIdeal.Result.arg1 m c),
    Cert.KernelIdeal.Result.run m g,
    (θ_run Cert.ReferenceIdeal.defs _ _).mono (fun r h c => by
      have e0 : Cert.ReferenceIdeal.Result.arg0 m' c = Cert.KernelIdeal.Result.arg0 m c := (hagree c).1
      have e1 : Cert.ReferenceIdeal.Result.arg1 m' c = Cert.KernelIdeal.Result.arg1 m c := (hagree c).2
      have h' := h c
      rw [e0, e1] at h'
      exact h') (Cert.ReferenceIdeal.Result.run m' g')⟩

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ, fun m ρ _ => Cert.ReferenceIdeal.Gen.frame m ρ,
  trivial, algebraic⟩

end Cert.Proof

end
